-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S18432x3584 : Shape := ⟨2, ![18432, 3584]⟩
abbrev S1664x9728 : Shape := ⟨2, ![1664, 9728]⟩
abbrev S9728 : Shape := ⟨1, ![9728]⟩
abbrev S256x9728 : Shape := ⟨2, ![256, 9728]⟩
abbrev S1x9728 : Shape := ⟨2, ![1, 9728]⟩
abbrev S19x3328x512 : Shape := ⟨3, ![19, 3328, 512]⟩
abbrev S19x8x512 : Shape := ⟨3, ![19, 8, 512]⟩
abbrev S1664x512 : Shape := ⟨2, ![1664, 512]⟩
abbrev S1x512 : Shape := ⟨2, ![1, 512]⟩
abbrev S1x3328x512 : Shape := ⟨3, ![1, 3328, 512]⟩
abbrev S1x8x512 : Shape := ⟨3, ![1, 8, 512]⟩
abbrev S1664x1x512 : Shape := ⟨3, ![1664, 1, 512]⟩
abbrev S1664x2x512 : Shape := ⟨3, ![1664, 2, 512]⟩
abbrev S3328x512 : Shape := ⟨2, ![3328, 512]⟩
abbrev S32x3328 : Shape := ⟨2, ![32, 3328]⟩
abbrev S32x512 : Shape := ⟨2, ![32, 512]⟩
abbrev S1x1x512 : Shape := ⟨3, ![1, 1, 512]⟩
abbrev S18432x9728 : Shape := ⟨2, ![18432, 9728]⟩
abbrev S18432x3328 : Shape := ⟨2, ![18432, 3328]⟩
abbrev S12x1536 : Shape := ⟨2, ![12, 1536]⟩
abbrev S256x3584 : Shape := ⟨2, ![256, 3584]⟩
abbrev S256x3328 : Shape := ⟨2, ![256, 3328]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S256x512 : Shape := ⟨2, ![256, 512]⟩

abbrev nBuf : Space → Nat
  | .hbm => 11
  | .vmem => 27
  | .smem => 0
  | _ => 0

abbrev bufTy : (tb : Table) → Fin (tcTables nBuf tb) → BufTy
  | .hbm, ⟨0, _⟩ => ⟨S18432x3584, .bf16⟩
  | .hbm, ⟨1, _⟩ => ⟨S1664x9728, .i8⟩
  | .hbm, ⟨2, _⟩ => ⟨S9728, .f32⟩
  | .hbm, ⟨3, _⟩ => ⟨S256x9728, .bf16⟩
  | .hbm, ⟨4, _⟩ => ⟨S1x9728, .f32⟩
  | .hbm, ⟨5, _⟩ => ⟨S19x3328x512, .fp8e4m3⟩
  | .hbm, ⟨6, _⟩ => ⟨S19x8x512, .f32⟩
  | .hbm, ⟨7, _⟩ => ⟨S18432x9728, .bf16⟩
  | .hbm, ⟨8, _⟩ => ⟨S18432x3328, .i8⟩
  | .hbm, ⟨9, _⟩ => ⟨S12x1536, .f32⟩
  | .hbm, ⟨10, _⟩ => ⟨S12x1536, .f32⟩
  | .local _ .vmem, ⟨0, _⟩ => ⟨S1664x512, .i8⟩
  | .local _ .vmem, ⟨1, _⟩ => ⟨S1664x512, .i8⟩
  | .local _ .vmem, ⟨2, _⟩ => ⟨S1x512, .f32⟩
  | .local _ .vmem, ⟨3, _⟩ => ⟨S1x512, .f32⟩
  | .local _ .vmem, ⟨4, _⟩ => ⟨S1x3328x512, .fp8e4m3⟩
  | .local _ .vmem, ⟨5, _⟩ => ⟨S1x3328x512, .fp8e4m3⟩
  | .local _ .vmem, ⟨6, _⟩ => ⟨S1x8x512, .f32⟩
  | .local _ .vmem, ⟨7, _⟩ => ⟨S1x8x512, .f32⟩
  | .local _ .vmem, ⟨8, _⟩ => ⟨S256x3584, .bf16⟩
  | .local _ .vmem, ⟨9, _⟩ => ⟨S256x3584, .bf16⟩
  | .local _ .vmem, ⟨10, _⟩ => ⟨S19x3328x512, .fp8e4m3⟩
  | .local _ .vmem, ⟨11, _⟩ => ⟨S19x8x512, .f32⟩
  | .local _ .vmem, ⟨12, _⟩ => ⟨S256x9728, .bf16⟩
  | .local _ .vmem, ⟨13, _⟩ => ⟨S256x9728, .bf16⟩
  | .local _ .vmem, ⟨14, _⟩ => ⟨S256x9728, .bf16⟩
  | .local _ .vmem, ⟨15, _⟩ => ⟨S256x3328, .i8⟩
  | .local _ .vmem, ⟨16, _⟩ => ⟨S256x3328, .i8⟩
  | .local _ .vmem, ⟨17, _⟩ => ⟨S12x1536, .f32⟩
  | .local _ .vmem, ⟨18, _⟩ => ⟨S12x1536, .f32⟩
  | .local _ .vmem, ⟨19, _⟩ => ⟨S256x3328, .fp8e4m3⟩
  | .local _ .vmem, ⟨20, _⟩ => ⟨S256x256, .bf16⟩
  | .local _ .vmem, ⟨21, _⟩ => ⟨S256x128, .f32⟩
  | .local _ .vmem, ⟨22, _⟩ => ⟨S256x128, .f32⟩
  | .local _ .vmem, ⟨23, _⟩ => ⟨S256x3328, .fp8e4m3⟩
  | .local _ .vmem, ⟨24, _⟩ => ⟨S256x256, .bf16⟩
  | .local _ .vmem, ⟨25, _⟩ => ⟨S256x128, .f32⟩
  | .local _ .vmem, ⟨26, _⟩ => ⟨S256x128, .f32⟩
  | _, _ => ⟨S18432x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc1_scratch5 : Ref sig .tc := ⟨.vmem, 24, rfl⟩
abbrev cc1_scratch6 : Ref sig .tc := ⟨.vmem, 25, rfl⟩
abbrev cc1_scratch7 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3328x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![73], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_mult1 (i : grid1.Coords) : BitVec 32 :=
  let arg0 : BitVec 32 := BitVec.ofNat 32 (i 0).val
  let c71_i32 : BitVec 32 := 71#32
  let v293 : BitVec 32 := Scalar.minsi arg0 c71_i32
  let c6_i32_98 : BitVec 32 := 6#32
  let c0_i32_99 : BitVec 32 := 0#32
  let v311 : BitVec 1 := Scalar.cmpi .eq c6_i32_98 c0_i32_99
  let c1_i32_100 : BitVec 32 := 1#32
  let v312 : BitVec 32 := Scalar.select v311 c1_i32_100 c6_i32_98
  let v313 : BitVec 32 := Scalar.remsi v293 v312
  let c0_i32_102 : BitVec 32 := 0#32
  let v315 : BitVec 1 := Scalar.cmpi .slt v313 c0_i32_102
  let c0_i32_103 : BitVec 32 := 0#32
  let v316 : BitVec 1 := Scalar.cmpi .slt v312 c0_i32_103
  let v317 : BitVec 1 := Scalar.xori v315 v316
  let c0_i32_101 : BitVec 32 := 0#32
  let v314 : BitVec 1 := Scalar.cmpi .ne v313 c0_i32_101
  let v318 : BitVec 1 := Scalar.andi v317 v314
  let v319 : BitVec 32 := Scalar.addi v313 v312
  let v320 : BitVec 32 := Scalar.select v318 v319 v313
  let c256_i32 : BitVec 32 := 256#32
  let v321 : BitVec 32 := Scalar.muli v320 c256_i32
  v321
def k1_off1 (i : grid1.Coords) : Fin 2 → Nat :=
  let arg0 : BitVec 32 := BitVec.ofNat 32 (i 0).val
  let c71_i32 : BitVec 32 := 71#32
  let v293 : BitVec 32 := Scalar.minsi arg0 c71_i32
  let c0_i32_93 : BitVec 32 := 0#32
  let v295 : BitVec 1 := Scalar.cmpi .sgt v293 c0_i32_93
  let v296 : BitVec 32 := Scalar.extui v295
  let c0_i32_94 : BitVec 32 := 0#32
  let v297 : BitVec 1 := Scalar.cmpi .slt v293 c0_i32_94
  let v298 : BitVec 32 := Scalar.extui v297
  let v299 : BitVec 32 := Scalar.subi v296 v298
  let c6_i32 : BitVec 32 := 6#32
  let c0_i32_95 : BitVec 32 := 0#32
  let v300 : BitVec 1 := Scalar.cmpi .sgt c6_i32 c0_i32_95
  let v301 : BitVec 32 := Scalar.extui v300
  let c0_i32_96 : BitVec 32 := 0#32
  let v302 : BitVec 1 := Scalar.cmpi .slt c6_i32 c0_i32_96
  let v303 : BitVec 32 := Scalar.extui v302
  let v304 : BitVec 32 := Scalar.subi v301 v303
  let v305 : BitVec 1 := Scalar.cmpi .ne v299 v304
  let v306 : BitVec 32 := Scalar.remsi v293 c6_i32
  let c0_i32_97 : BitVec 32 := 0#32
  let v307 : BitVec 1 := Scalar.cmpi .ne v306 c0_i32_97
  let v308 : BitVec 1 := Scalar.andi v305 v307
  let v294 : BitVec 32 := Scalar.divsi v293 c6_i32
  let c1_i32 : BitVec 32 := 1#32
  let v309 : BitVec 32 := Scalar.subi v294 c1_i32
  let v310 : BitVec 32 := Scalar.select v308 v309 v294
  let v325 : Index := Scalar.indexCast v310
  let c6_i32_98 : BitVec 32 := 6#32
  let c0_i32_99 : BitVec 32 := 0#32
  let v311 : BitVec 1 := Scalar.cmpi .eq c6_i32_98 c0_i32_99
  let c1_i32_100 : BitVec 32 := 1#32
  let v312 : BitVec 32 := Scalar.select v311 c1_i32_100 c6_i32_98
  let v313 : BitVec 32 := Scalar.remsi v293 v312
  let c0_i32_102 : BitVec 32 := 0#32
  let v315 : BitVec 1 := Scalar.cmpi .slt v313 c0_i32_102
  let c0_i32_103 : BitVec 32 := 0#32
  let v316 : BitVec 1 := Scalar.cmpi .slt v312 c0_i32_103
  let v317 : BitVec 1 := Scalar.xori v315 v316
  let c0_i32_101 : BitVec 32 := 0#32
  let v314 : BitVec 1 := Scalar.cmpi .ne v313 c0_i32_101
  let v318 : BitVec 1 := Scalar.andi v317 v314
  let v319 : BitVec 32 := Scalar.addi v313 v312
  let v320 : BitVec 32 := Scalar.select v318 v319 v313
  let c256_i32 : BitVec 32 := 256#32
  let v321 : BitVec 32 := Scalar.muli v320 c256_i32
  let v322 : BitVec 32 := v321
  let v326 : Index := Scalar.indexCast v322
  ![v325.toNat, v326.toNat]
def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k1_mult2 (i : grid1.Coords) : BitVec 32 :=
  let arg0 : BitVec 32 := BitVec.ofNat 32 (i 0).val
  let c71_i32 : BitVec 32 := 71#32
  let v309 : BitVec 32 := Scalar.minsi arg0 c71_i32
  let c6_i32_114 : BitVec 32 := 6#32
  let c0_i32_115 : BitVec 32 := 0#32
  let v327 : BitVec 1 := Scalar.cmpi .eq c6_i32_114 c0_i32_115
  let c1_i32_116 : BitVec 32 := 1#32
  let v328 : BitVec 32 := Scalar.select v327 c1_i32_116 c6_i32_114
  let v329 : BitVec 32 := Scalar.remsi v309 v328
  let c0_i32_118 : BitVec 32 := 0#32
  let v331 : BitVec 1 := Scalar.cmpi .slt v329 c0_i32_118
  let c0_i32_119 : BitVec 32 := 0#32
  let v332 : BitVec 1 := Scalar.cmpi .slt v328 c0_i32_119
  let v333 : BitVec 1 := Scalar.xori v331 v332
  let c0_i32_117 : BitVec 32 := 0#32
  let v330 : BitVec 1 := Scalar.cmpi .ne v329 c0_i32_117
  let v334 : BitVec 1 := Scalar.andi v333 v330
  let v335 : BitVec 32 := Scalar.addi v329 v328
  let v336 : BitVec 32 := Scalar.select v334 v335 v329
  let c256_i32 : BitVec 32 := 256#32
  let v337 : BitVec 32 := Scalar.muli v336 c256_i32
  v337
def k1_off2 (i : grid1.Coords) : Fin 2 → Nat :=
  let arg0 : BitVec 32 := BitVec.ofNat 32 (i 0).val
  let c71_i32 : BitVec 32 := 71#32
  let v309 : BitVec 32 := Scalar.minsi arg0 c71_i32
  let c0_i32_109 : BitVec 32 := 0#32
  let v311 : BitVec 1 := Scalar.cmpi .sgt v309 c0_i32_109
  let v312 : BitVec 32 := Scalar.extui v311
  let c0_i32_110 : BitVec 32 := 0#32
  let v313 : BitVec 1 := Scalar.cmpi .slt v309 c0_i32_110
  let v314 : BitVec 32 := Scalar.extui v313
  let v315 : BitVec 32 := Scalar.subi v312 v314
  let c6_i32 : BitVec 32 := 6#32
  let c0_i32_111 : BitVec 32 := 0#32
  let v316 : BitVec 1 := Scalar.cmpi .sgt c6_i32 c0_i32_111
  let v317 : BitVec 32 := Scalar.extui v316
  let c0_i32_112 : BitVec 32 := 0#32
  let v318 : BitVec 1 := Scalar.cmpi .slt c6_i32 c0_i32_112
  let v319 : BitVec 32 := Scalar.extui v318
  let v320 : BitVec 32 := Scalar.subi v317 v319
  let v321 : BitVec 1 := Scalar.cmpi .ne v315 v320
  let v322 : BitVec 32 := Scalar.remsi v309 c6_i32
  let c0_i32_113 : BitVec 32 := 0#32
  let v323 : BitVec 1 := Scalar.cmpi .ne v322 c0_i32_113
  let v324 : BitVec 1 := Scalar.andi v321 v323
  let v310 : BitVec 32 := Scalar.divsi v309 c6_i32
  let c1_i32 : BitVec 32 := 1#32
  let v325 : BitVec 32 := Scalar.subi v310 c1_i32
  let v326 : BitVec 32 := Scalar.select v324 v325 v310
  let v341 : Index := Scalar.indexCast v326
  let c6_i32_114 : BitVec 32 := 6#32
  let c0_i32_115 : BitVec 32 := 0#32
  let v327 : BitVec 1 := Scalar.cmpi .eq c6_i32_114 c0_i32_115
  let c1_i32_116 : BitVec 32 := 1#32
  let v328 : BitVec 32 := Scalar.select v327 c1_i32_116 c6_i32_114
  let v329 : BitVec 32 := Scalar.remsi v309 v328
  let c0_i32_118 : BitVec 32 := 0#32
  let v331 : BitVec 1 := Scalar.cmpi .slt v329 c0_i32_118
  let c0_i32_119 : BitVec 32 := 0#32
  let v332 : BitVec 1 := Scalar.cmpi .slt v328 c0_i32_119
  let v333 : BitVec 1 := Scalar.xori v331 v332
  let c0_i32_117 : BitVec 32 := 0#32
  let v330 : BitVec 1 := Scalar.cmpi .ne v329 c0_i32_117
  let v334 : BitVec 1 := Scalar.andi v333 v330
  let v335 : BitVec 32 := Scalar.addi v329 v328
  let v336 : BitVec 32 := Scalar.select v334 v335 v329
  let c256_i32 : BitVec 32 := 256#32
  let v337 : BitVec 32 := Scalar.muli v336 c256_i32
  let v338 : BitVec 32 := v337
  let v342 : Index := Scalar.indexCast v338
  ![v341.toNat, v342.toNat]
def cc1_transform_0 (i : grid1.Coords) : Fin 2 → Nat :=
  let arg0 : BitVec 32 := BitVec.ofNat 32 (i 0).val
  let c71_i32 : BitVec 32 := 71#32
  let v0 : BitVec 32 := Scalar.minsi arg0 c71_i32
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_5 (i : grid1.Coords) : Fin 2 → Nat :=
  let arg0 : BitVec 32 := BitVec.ofNat 32 (i 0).val
  let c71_i32 : BitVec 32 := 71#32
  let v0 : BitVec 32 := Scalar.minsi arg0 c71_i32
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S19x3328x512 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S19x8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x9728 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x9728 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x3328 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S12x1536 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S12x1536 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S18432x3584 : Shape := ⟨2, ![18432, 3584]⟩
abbrev S1664x9728 : Shape := ⟨2, ![1664, 9728]⟩
abbrev S9728 : Shape := ⟨1, ![9728]⟩
abbrev S256x9728 : Shape := ⟨2, ![256, 9728]⟩
abbrev S18432x3328 : Shape := ⟨2, ![18432, 3328]⟩
abbrev S_ : Shape := ⟨0, ![]⟩
abbrev S18432 : Shape := ⟨1, ![18432]⟩
abbrev S18432x1 : Shape := ⟨2, ![18432, 1]⟩
abbrev S18432x1664 : Shape := ⟨2, ![18432, 1664]⟩
abbrev S18432x9728 : Shape := ⟨2, ![18432, 9728]⟩
abbrev S18432x256 : Shape := ⟨2, ![18432, 256]⟩
abbrev S1x9728 : Shape := ⟨2, ![1, 9728]⟩
abbrev S12x1536 : Shape := ⟨2, ![12, 1536]⟩

abbrev nBuf : Space → Nat
  | .hbm => 92
  | .vmem => 0
  | .smem => 0
  | _ => 0

abbrev bufTy : (tb : Table) → Fin (tcTables nBuf tb) → BufTy
  | .hbm, ⟨0, _⟩ => ⟨S18432x3584, .bf16⟩
  | .hbm, ⟨1, _⟩ => ⟨S1664x9728, .i8⟩
  | .hbm, ⟨2, _⟩ => ⟨S9728, .f32⟩
  | .hbm, ⟨3, _⟩ => ⟨S256x9728, .bf16⟩
  | .hbm, ⟨4, _⟩ => ⟨S18432x3328, .bf16⟩
  | .hbm, ⟨5, _⟩ => ⟨S18432x3328, .f32⟩
  | .hbm, ⟨6, _⟩ => ⟨S_, .f32⟩
  | .hbm, ⟨7, _⟩ => ⟨S18432, .f32⟩
  | .hbm, ⟨8, _⟩ => ⟨S_, .f32⟩
  | .hbm, ⟨9, _⟩ => ⟨S18432, .f32⟩
  | .hbm, ⟨10, _⟩ => ⟨S18432, .i1⟩
  | .hbm, ⟨11, _⟩ => ⟨S18432, .f32⟩
  | .hbm, ⟨12, _⟩ => ⟨S_, .f32⟩
  | .hbm, ⟨13, _⟩ => ⟨S18432, .f32⟩
  | .hbm, ⟨14, _⟩ => ⟨S18432, .f32⟩
  | .hbm, ⟨15, _⟩ => ⟨S_, .f32⟩
  | .hbm, ⟨16, _⟩ => ⟨S18432, .f32⟩
  | .hbm, ⟨17, _⟩ => ⟨S18432, .f32⟩
  | .hbm, ⟨18, _⟩ => ⟨S18432x1, .f32⟩
  | .hbm, ⟨19, _⟩ => ⟨S18432x3328, .f32⟩
  | .hbm, ⟨20, _⟩ => ⟨S18432x3328, .f32⟩
  | .hbm, ⟨21, _⟩ => ⟨S18432x1, .f32⟩
  | .hbm, ⟨22, _⟩ => ⟨S18432x3328, .f32⟩
  | .hbm, ⟨23, _⟩ => ⟨S18432x3328, .f32⟩
  | .hbm, ⟨24, _⟩ => ⟨S18432x3328, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S18432x3328, .f32⟩
  | .hbm, ⟨29, _⟩ => ⟨S18432x3328, .f32⟩
  | .hbm, ⟨30, _⟩ => ⟨S_, .f32⟩
  | .hbm, ⟨31, _⟩ => ⟨S18432x3328, .f32⟩
  | .hbm, ⟨32, _⟩ => ⟨S18432x3328, .f32⟩
  | .hbm, ⟨33, _⟩ => ⟨S18432x3328, .i32⟩
  | .hbm, ⟨34, _⟩ => ⟨S18432x3328, .i8⟩
  | .hbm, ⟨35, _⟩ => ⟨S1664x9728, .i32⟩
  | .hbm, ⟨36, _⟩ => ⟨S_, .i32⟩
  | .hbm, ⟨37, _⟩ => ⟨S1664x9728, .i32⟩
  | .hbm, ⟨38, _⟩ => ⟨S1664x9728, .i32⟩
  | .hbm, ⟨39, _⟩ => ⟨S_, .i32⟩
  | .hbm, ⟨40, _⟩ => ⟨S1664x9728, .i32⟩
  | .hbm, ⟨41, _⟩ => ⟨S1664x9728, .i1⟩
  | .hbm, ⟨42, _⟩ => ⟨S_, .i32⟩
  | .hbm, ⟨43, _⟩ => ⟨S1664x9728, .i32⟩
  | .hbm, ⟨44, _⟩ => ⟨S1664x9728, .i32⟩
  | .hbm, ⟨45, _⟩ => ⟨S1664x9728, .i32⟩
  | .hbm, ⟨46, _⟩ => ⟨S_, .i32⟩
  | .hbm, ⟨47, _⟩ => ⟨S1664x9728, .i32⟩
  | .hbm, ⟨48, _⟩ => ⟨S1664x9728, .i32⟩
  | .hbm, ⟨49, _⟩ => ⟨S_, .i32⟩
  | .hbm, ⟨50, _⟩ => ⟨S1664x9728, .i32⟩
  | .hbm, ⟨51, _⟩ => ⟨S1664x9728, .i1⟩
  | .hbm, ⟨52, _⟩ => ⟨S_, .i32⟩
  | .hbm, ⟨53, _⟩ => ⟨S1664x9728, .i32⟩
  | .hbm, ⟨54, _⟩ => ⟨S1664x9728, .i32⟩
  | .hbm, ⟨55, _⟩ => ⟨S1664x9728, .i32⟩
  | .hbm, ⟨56, _⟩ => ⟨S18432x1664, .i8⟩
  | .hbm, ⟨57, _⟩ => ⟨S18432x1664, .i32⟩
  | .hbm, ⟨58, _⟩ => ⟨S18432x1664, .bf16⟩
  | .hbm, ⟨59, _⟩ => ⟨S18432x1664, .i8⟩
  | .hbm, ⟨60, _⟩ => ⟨S18432x1664, .i32⟩
  | .hbm, ⟨61, _⟩ => ⟨S18432x1664, .bf16⟩
  | .hbm, ⟨62, _⟩ => ⟨S1664x9728, .bf16⟩
  | .hbm, ⟨63, _⟩ => ⟨S18432x9728, .f32⟩
  | .hbm, ⟨64, _⟩ => ⟨S1664x9728, .bf16⟩
  | .hbm, ⟨65, _⟩ => ⟨S18432x9728, .f32⟩
  | .hbm, ⟨66, _⟩ => ⟨S18432x9728, .f32⟩
  | .hbm, ⟨67, _⟩ => ⟨S_, .i32⟩
  | .hbm, ⟨68, _⟩ => ⟨S9728, .i32⟩
  | .hbm, ⟨69, _⟩ => ⟨S_, .i32⟩
  | .hbm, ⟨70, _⟩ => ⟨S9728, .i32⟩
  | .hbm, ⟨71, _⟩ => ⟨S9728, .i32⟩
  | .hbm, ⟨72, _⟩ => ⟨S9728, .f32⟩
  | .hbm, ⟨73, _⟩ => ⟨S18432x256, .bf16⟩
  | .hbm, ⟨74, _⟩ => ⟨S18432x9728, .f32⟩
  | .hbm, ⟨75, _⟩ => ⟨S18432x1, .f32⟩
  | .hbm, ⟨76, _⟩ => ⟨S1x9728, .f32⟩
  | .hbm, ⟨77, _⟩ => ⟨S18432x9728, .f32⟩
  | .hbm, ⟨78, _⟩ => ⟨S18432x9728, .f32⟩
  | .hbm, ⟨79, _⟩ => ⟨S18432x9728, .f32⟩
  | .hbm, ⟨80, _⟩ => ⟨S18432x9728, .f32⟩
  | .hbm, ⟨81, _⟩ => ⟨S18432x1, .f32⟩
  | .hbm, ⟨82, _⟩ => ⟨S9728, .f32⟩
  | .hbm, ⟨83, _⟩ => ⟨S1x9728, .f32⟩
  | .hbm, ⟨84, _⟩ => ⟨S18432x9728, .f32⟩
  | .hbm, ⟨85, _⟩ => ⟨S18432x9728, .f32⟩
  | .hbm, ⟨86, _⟩ => ⟨S18432x9728, .f32⟩
  | .hbm, ⟨87, _⟩ => ⟨S18432x9728, .f32⟩
  | .hbm, ⟨88, _⟩ => ⟨S18432x9728, .f32⟩
  | .hbm, ⟨89, _⟩ => ⟨S18432x9728, .bf16⟩
  | .hbm, ⟨90, _⟩ => ⟨S12x1536, .f32⟩
  | .hbm, ⟨91, _⟩ => ⟨S12x1536, .f32⟩
  | _, _ => ⟨S18432x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_c_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Proof.Kernel.Base.lean ====
module

public import proofs.«01_k».proof.Proof.Gen.Kernel.Launch
public import proofs.«01_k».proof.Proof.Gen.Kernel.Skeleton
public import Idealize.ShloMosaic.Lib.Pipeline.RegionsLoop
public import Idealize.ShloMosaic.Lib.Tactic

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the whole program: one copy of the pipeline library's algebra for each of the two
    launches, beside the transfers' counters. -/
abbrev UU : Type := IProdConst (Fin 2) (UR sig nD τ) × Counters

local notation "𝕄" => MT nD τ sig Unit (Elt F) ℕ UU ℕ

/-- The contents of the buffer under a memref, on one core. -/
abbrev Bf (c : Dev nD) {sp : Space} {S : Shape} {e : EltTy} (M : Memref sig .tc sp S e) : Type :=
  Buf (Elt F) (M.view.loc (c : Thread nD τ))
/-- The memref's buffer held whole at given contents. -/
abbrev pt (c : Dev nD) {sp : Space} {S : Shape} {e : EltTy} (M : Memref sig .tc sp S e) (f : Bf (F := F) c M) : sProp 𝕄 :=
  M.view.loc (c : Thread nD τ) ↦{fullShare} f

end Cert.Proof.Kernel

end
-- ==== Proof.Kernel.BodyA.lean ====
module

public import proofs.«01_k».proof.Proof.Gen.Kernel.Launch
public import proofs.«01_k».proof.Proof.Gen.Kernel.Skeleton
public import Idealize.ShloMosaic.Lib.Pipeline.RegionsLoop
public import Idealize.ShloMosaic.Lib.Tactic
public import proofs.«01_k».proof.Proof.Kernel.Base

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option sl_exec.parts true in
/-- The first grid point of the main kernel: only the quantiser runs, over the first block of rows. -/
noncomputable def firstRun (c : Dev nD) (i : grid1.Coords) (h1 : k1_cond1 i = 1#1) (h2 : ¬ k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (f0 : Bf (F := F) c M0) (f1 : Bf (F := F) c M1) (f2 : Bf (F := F) c M2) (f3 : Bf (F := F) c M3) (f4 : Bf (F := F) c M4) (f6 : Bf (F := F) c M6) (f7 : Bf (F := F) c M7) (f12 : Bf (F := F) c M12) (f13 : Bf (F := F) c M13) (f14 : Bf (F := F) c M14) (f15 : Bf (F := F) c M15) :
    { W : Bf (F := F) c M5 × Bf (F := F) c M6 × Bf (F := F) c M7 × Bf (F := F) c M8 × Bf (F := F) c M9 × Bf (F := F) c M10 × Bf (F := F) c M11 // ∀ (f5 : Bf (F := F) c M5) (f8 : Bf (F := F) c M8) (f9 : Bf (F := F) c M9) (f10 : Bf (F := F) c M10) (f11 : Bf (F := F) c M11) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ (iprop(pt c M0 f0 ∗ pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2 ∗ pt c M12 f12 ∗ pt c M13 f13 ∗ pt c M14 f14 ∗ pt c M15 f15) -∗ Q ⟨⟩))
          ⊢ wp frame (wpE (defs₀ (F := F)) Variants.none c none) E (cc1_quant_matmul i M0 h0 M1 h1 M2 h2 M3 h3 M4 h4 M5 h5 M6 h6 M7 h7 M8 h8 M9 h9 M10 h10 M11 h11 M12 h12 M13 h13 M14 h14 M15 h15) Q } := by
  refine ⟨⟨?_, ?_, ?_, ?_, ?_, ?_, ?_⟩, fun f5 f8 f9 f10 f11 E Q => ?run⟩
  case run =>
    iintro ⟨H0, H1, H2, H3, H4, H5, H6, H7, H8, H9, H10, H11, H12, H13, H14, H15, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Kernel

end
-- ==== Proof.Kernel.BodyB.lean ====
module

public import proofs.«01_k».proof.Proof.Gen.Kernel.Launch
public import proofs.«01_k».proof.Proof.Gen.Kernel.Skeleton
public import Idealize.ShloMosaic.Lib.Pipeline.RegionsLoop
public import Idealize.ShloMosaic.Lib.Tactic
public import proofs.«01_k».proof.Proof.Kernel.Base

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option sl_exec.parts true in
/-- A later grid point of the main kernel: the quantised rows of the previous point are copied aside, the next block is quantised, and the product of the copied rows is stored. -/
noncomputable def stepRun (c : Dev nD) (i : grid1.Coords) (h1 : ¬ k1_cond1 i = 1#1) (h2 : k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (f0 : Bf (F := F) c M0) (f1 : Bf (F := F) c M1) (f2 : Bf (F := F) c M2) (f3 : Bf (F := F) c M3) (f6 : Bf (F := F) c M6) (f7 : Bf (F := F) c M7) (f8 : Bf (F := F) c M8) (f9 : Bf (F := F) c M9) (f10 : Bf (F := F) c M10) (f11 : Bf (F := F) c M11) :
    { W : Bf (F := F) c M4 × Bf (F := F) c M5 × Bf (F := F) c M6 × Bf (F := F) c M7 × Bf (F := F) c M8 × Bf (F := F) c M9 × Bf (F := F) c M10 × Bf (F := F) c M11 × Bf (F := F) c M12 × Bf (F := F) c M13 × Bf (F := F) c M14 × Bf (F := F) c M15 // ∀ (f4 : Bf (F := F) c M4) (f5 : Bf (F := F) c M5) (f12 : Bf (F := F) c M12) (f13 : Bf (F := F) c M13) (f14 : Bf (F := F) c M14) (f15 : Bf (F := F) c M15) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ (iprop(pt c M0 f0 ∗ pt c M1 f1 ∗ pt c M2 f2 ∗ pt c M3 f3 ∗ pt c M4 W.1 ∗ pt c M5 W.2.1 ∗ pt c M6 W.2.2.1 ∗ pt c M7 W.2.2.2.1 ∗ pt c M8 W.2.2.2.2.1 ∗ pt c M9 W.2.2.2.2.2.1 ∗ pt c M10 W.2.2.2.2.2.2.1 ∗ pt c M11 W.2.2.2.2.2.2.2.1 ∗ pt c M12 W.2.2.2.2.2.2.2.2.1 ∗ pt c M13 W.2.2.2.2.2.2.2.2.2.1 ∗ pt c M14 W.2.2.2.2.2.2.2.2.2.2.1 ∗ pt c M15 W.2.2.2.2.2.2.2.2.2.2.2) -∗ Q ⟨⟩))
          ⊢ wp frame (wpE (defs₀ (F := F)) Variants.none c none) E (cc1_quant_matmul i M0 h0 M1 h1 M2 h2 M3 h3 M4 h4 M5 h5 M6 h6 M7 h7 M8 h8 M9 h9 M10 h10 M11 h11 M12 h12 M13 h13 M14 h14 M15 h15) Q } := by
  refine ⟨⟨?_, ?_, ?_, ?_, ?_, ?_, ?_, ?_, ?_, ?_, ?_, ?_⟩, fun f4 f5 f12 f13 f14 f15 E Q => ?run⟩
  case run =>
    iintro ⟨H0, H1, H2, H3, H4, H5, H6, H7, H8, H9, H10, H11, H12, H13, H14, H15, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Kernel

end
-- ==== Proof.Kernel.Body0.lean ====
module

public import proofs.«01_k».proof.Proof.Gen.Kernel.Launch
public import proofs.«01_k».proof.Proof.Gen.Kernel.Skeleton
public import Idealize.ShloMosaic.Lib.Pipeline.RegionsLoop
public import Idealize.ShloMosaic.Lib.Tactic
public import proofs.«01_k».proof.Proof.Kernel.Base

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option sl_exec.parts false in
/-- The weight preparation at one grid point: the contents it leaves in the decoded weights' block and in the column-sum block, with the proof that it runs. -/
noncomputable def prepRun (c : Dev nD) (i : grid0.Coords)  (M0 : Memref sig .tc .vmem S1664x512 .i8) (h0 : M0.IsWhole) (M1 : Memref sig .tc .vmem S1x512 .f32) (h1 : M1.IsWhole) (M2 : Memref sig .tc .vmem S1x3328x512 .fp8e4m3) (h2 : M2.IsWhole) (M3 : Memref sig .tc .vmem S1x8x512 .f32) (h3 : M3.IsWhole)
    (f0 : Bf (F := F) c M0) (f1 : Bf (F := F) c M1) (f3 : Bf (F := F) c M3) :
    { W : Bf (F := F) c M2 × Bf (F := F) c M3 // ∀ (f2 : Bf (F := F) c M2) (E : Set ℕ) (Q : PUnit → sProp 𝕄),
        iprop(pt c M0 f0 ∗ pt c M1 f1 ∗ pt c M2 f2 ∗ pt c M3 f3 ∗ (iprop(pt c M0 f0 ∗ pt c M1 f1 ∗ pt c M2 W.1 ∗ pt c M3 W.2) -∗ Q ⟨⟩))
          ⊢ wp frame (wpE (defs₀ (F := F)) Variants.none c none) E (cc0_prep_weights i M0 h0 M1 h1 M2 h2 M3 h3) Q } := by
  refine ⟨⟨?_, ?_⟩, fun f2 E Q => ?run⟩
  case run =>
    iintro ⟨H0, H1, H2, H3, Hk⟩
    sl_exec!
    sl_step
    iapply Hk
    isplitl [H0]; · iexact H0
    isplitl [H1]; · iexact H1
    isplitl [H2]; · iexact H2
    iexact H3

end Cert.Proof.Kernel

end
-- ==== Proof.Shared.Region.lean ====
/-
  A kernel region entered from "every unscoped buffer at a valuation" and left at some valuation whose arrays are
  what the relational proof data allows, and such a region as a stretch of the host program whose entry valuation is
  known only to exist.
-/
module

public import Idealize.ShloMosaic.Lib.Pipeline.RegionsLoop
public import Idealize.ShloMosaic.Lib.Pipeline.RegionArraysD
public import Idealize.ShloMosaic.Lib.Pipeline.FrameBody

@[expose] public section

noncomputable section

namespace Cert.Proof.Shared

open Idealize.ShloMosaic
open Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]

variable (pcs : P → PCfg sig Λ₀ Val) (a : (p : P) → (pcs p).Adm)
  (rdats : (p : P) → (c : Dev nD) → RDat τ Val Ix Name U Lvl (pin pcs a p) c) (ι : Ix)
  (phinj : Function.Injective (Pipeline.cellOf (nD := nD) (τ := τ) (pin pcs a)))
  (defs₀ : Defs nD τ sig Val Λ₀) (𝒱₀ : Variants)
  (L : GSem nD τ sig → Finset Ix) (lv : GSem nD τ sig → Ix → Lvl)

omit [Fintype P] in
/-- The arrays after every write-back, as one choice of contents each of which the proof data allows. -/
theorem arraysAt_pick [∀ e, Nonempty (Val e)] {cfg : Cfg sig Λ₀} {c : Dev nD} (rd : RDat τ Val Ix Name U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

set_option backward.isDefEq.respectTransparency.types false in
/-- The record of a region of a kernel with no table, no semaphore of its own and nothing owed: entered from the
    unscoped buffers at `V c` beside `R c`, left with them at `mk c A`, where `A` are contents that the proof data
    allows the arrays to end with. -/
def regionSeg [∀ e, Nonempty (Val e)] (p : P) (kit : PLaunchFacts (nD := nD) (τ := τ) pcs p) (hK : (pcs p).pre.K = 0)
    (hbody : ∀ c, (rdats p c).BodyObligation defs₀ 𝒱₀ ι Set.univ)
    (howed : ∀ c t, (rdats p c).owed t = 0) (hrec : ∀ c t, (rdats p c).recorded t = Set.univ)
    (hshare : ∀ c w, (rdats p c).share w = fullShare)
    (V : (c : Dev nD) → (b : Ref sig .tc) → Buf Val ((c.tc : Thread nD τ).loc b)) (R : Dev nD → sProp 𝕄)
    (hA : ∀ c w, (rdats p c).A w = V c (arrRef (pin pcs a p).spec w))
    (mk : (c : Dev nD) → ((w : Fin (pin pcs a p).W) → Buf Val (((pin pcs a p).win w).arr.view.loc (c.tc : Thread nD τ)))
      → (b : Ref sig .tc) → Buf Val ((c.tc : Thread nD τ).loc b))
    (hmkA : ∀ c A, (∀ w, (rdats p c).ArrAt w (pin pcs a p).N (A w)) → ∀ w, A w = mk c A (arrRef (pin pcs a p).spec w))
    (hmkO : ∀ c A (b : Ref sig .tc), b ∉ Finset.univ.image (arrRef (pin pcs a p).spec) → mk c A b = V c b)
    (hin : ∀ c, (scopedRest (pin pcs a p).spec c : sProp 𝕄) ⊢ (rdats p c).Φ 0)
    (hout : ∀ c, (rdats p c).Φ (Fin.last (pin pcs a p).N) ⊢ (scopedRest (pin pcs a p).spec c : sProp 𝕄)) :
    RDat.RegionSeg pcs a rdats ι defs₀ 𝒱₀ L lv p where
  win := kit.to₀.win
  block_pos := kit.to₀.block_pos
  stage_whole := kit.to₀.stage_whole
  K := PEmpty
  osem k := k.elim
  ho := OwnSemFacts.none _
  hbody c := hbody c
  hwaits := RDat.hwaits_of_owed_zero _ _ _ _ L lv p fun c t => howed c t
  pre c := iprop(unscopedBufs c (V c) ∗ R c ∗ ∃ W, owes (c : Thread nD τ) (0 : CellTallies nD τ sig Ix) W)
  post c := iprop(∃ A, ⌜∀ w, (rdats p c).ArrAt w (pin pcs a p).N (A w)⌝ ∗ unscopedBufs c (mk c A) ∗ R c
    ∗ ∃ W, owes (c : Thread nD τ) (0 : CellTallies nD τ sig Ix) W)
  X _ := BI.emp
  Y _ := BI.emp
  Z c := iprop(unscopedRest (pin pcs a p).spec c (V c) ∗ R c)
  hentry c := by
    rw [ownSems0_none, prefHeld_of_none _ hK]
    have hsplit := RDat.arrays_of_unscopedBufs (p := p) pcs a rdats kit.win kit.arr_whole c (hshare c) (V c) (hA c)
    iintro ⟨⟨Hub, HR, HO⟩, -, -⟩
    ihave H := hsplit $$ Hub
    icases H with ⟨Ha, Hrest⟩
    imodintro
    isplitl [Ha]; · iexact Ha
    isplitr; · iempintro
    isplitl [HO]
    · unfold RDat.owesAt owesWithin RDat.bound
      rw [howed c 0, hrec c]
      icases HO with ⟨%W, HO⟩; iexists W; isplitr; · ipureintro; exact fun _ _ => Or.inl trivial
      iexact HO
    isplitr; · iempintro
    isplitl [Hrest] <;> iassumption
  hin c := by
    iintro ⟨-, -, Hr⟩
    iapply (hin c); iexact Hr
  hout c := by
    rw [ownSems0_none]
    iintro H
    isplitr; · iempintro
    isplitr; · iempintro
    iapply (hout c); iexact H
  hexit c := by
    have hjoin : ∀ A, (∀ w, (rdats p c).ArrAt w (pin pcs a p).N (A w)) →
        (iprop((rdats p c).arrays A ∗ unscopedRest (pin pcs a p).spec c (V c)) : sProp 𝕄) ⊢ unscopedBufs c (mk c A) := fun A hAt => by
      rw [unscopedBufs_split (pin pcs a) p kit.win.arr_unscoped kit.win.arr_inj c (mk c A),
        RDat.arrays_eq pcs a rdats p c kit.arr_whole (hshare c), bigSep_congr fun w _ => by rw [hmkA c A hAt w],
        show (unscopedRest (pin pcs a p).spec c (mk c A) : sProp 𝕄) = unscopedRest (pin pcs a p).spec c (V c) from by
          unfold unscopedRest
          exact bigSep_congr fun b hb => by rw [hmkO c A b (Finset.mem_sdiff.mp hb).2]]
    iintro ⟨Ha, HO, -, Hrest, HR⟩
    ihave Ha := (arraysAt_pick (rdats p c) (pin pcs a p).N) $$ Ha
    icases Ha with ⟨%A, %hAt, Ha⟩
    imodintro
    iexists A
    isplitr; · ipureintro; exact hAt
    isplitl [Ha Hrest]
    · iapply (hjoin A hAt); isplitl [Ha] <;> iassumption
    isplitl [HR]; · iexact HR
    unfold RDat.owesAt owesWithin
    rw [howed c (Fin.last _)]
    icases HO with ⟨%W, -, HO⟩; iexists W; iexact HO

include phinj in
/-- A family of regions of one pipeline as one stretch of the host program, entered from some member's first state and
    left at some member's last: the launch takes its ghost state from the thread. -/
def someRegion [∀ e, Nonempty (Val e)] [Infinite Name] (EP : Emb (URounds (GSem nD τ sig) Unit) 𝕄) [EP.LandsIn (upEmb : UEmb _ 𝕄)]
    (p : P) {O : Type} (rd : O → (p : P) → (c : Dev nD) → RDat τ Val Ix Name U Lvl (pin pcs a p) c)
    (sel : O → Dev nD → Prop) (S : (o : O) → RDat.RegionSeg pcs a (rd o) ι defs₀ 𝒱₀ L lv p) :
    HostSeg (Ix := Ix) (Name := Name) (U := U) (Lvl := Lvl) pcs defs₀ 𝒱₀ L lv where
  prog := Prog.lift (.customCall (entry p) ())
  pre c := iprop(∃ o, ⌜sel o c⌝ ∗ (S o).pre c ∗ cellsGhost (pin pcs a) EP p c ∗ toksInit (pin pcs a) EP p c)
  post c := iprop(∃ o, ⌜sel o c⌝ ∗ (S o).post c)
  run c β k K := by
    show _ ⊢ wp frame _ Set.univ (.op (.customCall (entry p) ()) fun x => k x) K
    iintro ⟨Hk, Hb, ⟨%o, %ho, Hp, Hg⟩, HL⟩
    icases Hg with ⟨Hg, Ht⟩
    iapply (RDat.RegionSeg.wp pcs a (rd o) ι phinj EP defs₀ 𝒱₀ L lv (S o) c none (by simp) (fun x => k x) K)
    isplitl [Hk]
    · iintro ⟨Hb, Hpost⟩
      iapply Hk
      isplitl [Hb]; · iexact Hb
      iexists o
      isplitr; · ipureintro; exact ho
      iexact Hpost
    isplitl [Hb]; · iexact Hb
    isplitl [Hp]; · iexact Hp
    isplitl [HL]; · iexact HL
    isplitl [Hg] <;> iassumption

end Cert.Proof.Shared

end
-- ==== Proof.Kernel.Data0.lean ====
module

public import proofs.«01_k».proof.Proof.Gen.Kernel.Points
public import proofs.«01_k».proof.Proof.Gen.Kernel.Launch
public import proofs.«01_k».proof.Proof.Gen.Kernel.Skeleton
public import Idealize.ShloMosaic.Lib.Pipeline.RegionsLoop
public import Idealize.ShloMosaic.Lib.Tactic
public import proofs.«01_k».proof.Proof.Kernel.Body0
public import proofs.«01_k».proof.Proof.Shared.Region

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

/-- A whole memref owned at what it reads is its buffer held at those contents. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  have hs := h.set_eq_univ
  unfold owns
  iintro ⟨%f, %hf, H⟩
  obtain rfl := h.eq_unread hf
  rw [hs]
  iexact H

/-- A buffer held at contents is its memref owned at what it reads of them. -/
theorem pt_owns (c : Dev nD) {sp : Space} {S : Shape} {e : EltTy} (M : Memref sig .tc sp S e) (h : M.IsWhole) (f : Bf (F := F) c M)
    (X : S.Idx → Elt F e) (hX : M.view.read (Elt F) f = X) :
    (pt c M f : sProp 𝕄) ⊢ owns (c : Thread nD τ) M fullShare X := by
  subst hX
  have hk : _ ⊢ (_ : sProp 𝕄) := owns_intro (c : Thread nD τ) M fullShare f
  rw [h.set_eq_univ] at hk
  exact hk

/-- The three rows that the body stores into the column sums' block. -/
abbrev colRows (c : Dev nD) (M0 : Memref sig .tc .vmem S1664x512 .i8) (M1 : Memref sig .tc .vmem S1x512 .f32)
    (f0 : Bf (F := F) c M0) (f1 : Bf (F := F) c M1) : List (View.Piece (Elt F) S1x8x512 .f32) :=
  [⟨Rect.unit ![0, 2, 0] S1x1x512.size inb_S1x8x512_S1x1x512_0_2_0,
      k0_pay1 (View.readAt (Elt F) M1.view (Rect.unit ![0, 0] S1x512.size inb_S1x512_S1x512_0_0).toLoadRect f1)⟩,
    ⟨Rect.unit ![0, 1, 0] S1x1x512.size inb_S1x8x512_S1x1x512_0_1_0,
      k0_pay6 (View.readAt (Elt F) M0.view (Rect.unit ![0, 0] S1664x512.size inb_S1664x512_S1664x512_0_0).toLoadRect f0)
        (View.readAt (Elt F) M1.view (Rect.unit ![0, 0] S1x512.size inb_S1x512_S1x512_0_0).toLoadRect f1)⟩,
    ⟨Rect.unit ![0, 0, 0] S1x1x512.size inb_S1x8x512_S1x1x512_0_0_0,
      k0_pay5 (View.readAt (Elt F) M0.view (Rect.unit ![0, 0] S1664x512.size inb_S1664x512_S1664x512_0_0).toLoadRect f0)⟩]

/-- What the point leaves in the decoded weights' block, -/
def w8Of (c : Dev nD) (M0 : Memref sig .tc .vmem S1664x512 .i8) (M2 : Memref sig .tc .vmem S1x3328x512 .fp8e4m3)
    (f0 : Bf (F := F) c M0) : S1x3328x512.Idx → Elt F .fp8e4m3 :=
  M2.view.read (Elt F) (M2.view.writes (Elt F) M2.view.junk (prepRun.sl.H2_1 c M0 f0))
/-- and in the column sums' block, over what it held before: only three of its eight rows are stored. -/
def colOf (c : Dev nD) (M0 : Memref sig .tc .vmem S1664x512 .i8) (M1 : Memref sig .tc .vmem S1x512 .f32)
    (M3 : Memref sig .tc .vmem S1x8x512 .f32) (f0 : Bf (F := F) c M0) (f1 : Bf (F := F) c M1) (f3 : Bf (F := F) c M3) :
    S1x8x512.Idx → Elt F .f32 :=
  M3.view.read (Elt F) (M3.view.writes (Elt F) f3 (colRows c M0 M1 f0 f1))

theorem prepRun_val (c : Dev nD) (i : grid0.Coords) (M0 : Memref sig .tc .vmem S1664x512 .i8) (h0 : M0.IsWhole) (M1 : Memref sig .tc .vmem S1x512 .f32) (h1 : M1.IsWhole) (M2 : Memref sig .tc .vmem S1x3328x512 .fp8e4m3) (h2 : M2.IsWhole) (M3 : Memref sig .tc .vmem S1x8x512 .f32) (h3 : M3.IsWhole)
    (f0 : Bf (F := F) c M0) (f1 : Bf (F := F) c M1) (f3 : Bf (F := F) c M3) :
    (prepRun (F := F) c i M0 h0 M1 h1 M2 h2 M3 h3 f0 f1 f3).1
      = (M2.view.writes (Elt F) M2.view.junk (prepRun.sl.H2_1 c M0 f0), M3.view.writes (Elt F) f3 (colRows c M0 M1 f0 f1)) := rfl

/-- The weight preparation at one point, over memrefs owned at what they read. -/
theorem prep_owns (c : Dev nD) (i : grid0.Coords) (M0 : Memref sig .tc .vmem S1664x512 .i8) (h0 : M0.IsWhole) (M1 : Memref sig .tc .vmem S1x512 .f32) (h1 : M1.IsWhole) (M2 : Memref sig .tc .vmem S1x3328x512 .fp8e4m3) (h2 : M2.IsWhole) (M3 : Memref sig .tc .vmem S1x8x512 .f32) (h3 : M3.IsWhole)
    (X0 : S1664x512.Idx → Elt F .i8) (X1 : S1x512.Idx → Elt F .f32) (Y2 : S1x3328x512.Idx → Elt F .fp8e4m3) (Y3 : S1x8x512.Idx → Elt F .f32) (Q : PUnit → sProp 𝕄) :
    iprop(owns (c : Thread nD τ) M0 fullShare X0 ∗ owns (c : Thread nD τ) M1 fullShare X1 ∗ owns (c : Thread nD τ) M2 fullShare Y2 ∗ owns (c : Thread nD τ) M3 fullShare Y3
      ∗ (iprop(owns (c : Thread nD τ) M0 fullShare X0 ∗ owns (c : Thread nD τ) M1 fullShare X1 ∗ owns (c : Thread nD τ) M2 fullShare (w8Of c M0 M2 (h0.unread X0))
          ∗ owns (c : Thread nD τ) M3 fullShare (colOf c M0 M1 M3 (h0.unread X0) (h1.unread X1) (h3.unread Y3))) -∗ Q ⟨⟩))
    ⊢ wp frame (wpE (defs₀ (F := F)) Variants.none c none) Set.univ (cc0_prep_weights i M0 h0 M1 h1 M2 h2 M3 h3) Q := by
  have hrun := (prepRun (F := F) c i M0 h0 M1 h1 M2 h2 M3 h3 (h0.unread X0) (h1.unread X1) (h3.unread Y3)).2 (h2.unread Y2) Set.univ Q
  rw [prepRun_val] at hrun
  iintro ⟨H0, H1, H2, H3, Hk⟩
  ihave H0 := (owns_pt c M0 h0 X0) $$ H0
  ihave H1 := (owns_pt c M1 h1 X1) $$ H1
  ihave H2 := (owns_pt c M2 h2 Y2) $$ H2
  ihave H3 := (owns_pt c M3 h3 Y3) $$ H3
  iapply hrun
  isplitl [H0]; · iexact H0
  isplitl [H1]; · iexact H1
  isplitl [H2]; · iexact H2
  isplitl [H3]; · iexact H3
  iintro ⟨H0, H1, H2, H3⟩
  ihave H0 := (pt_owns c M0 h0 _ _ (h0.read_unread X0)) $$ H0
  ihave H1 := (pt_owns c M1 h1 _ _ (h1.read_unread X1)) $$ H1
  ihave H2 := (pt_owns c M2 h2 _ (w8Of c M0 M2 (h0.unread X0)) rfl) $$ H2
  ihave H3 := (pt_owns c M3 h3 _ (colOf c M0 M1 M3 (h0.unread X0) (h1.unread X1) (h3.unread Y3)) rfl) $$ H3
  iapply Hk
  isplitl [H0]; · iexact H0
  isplitl [H1]; · iexact H1
  isplitl [H2]; · iexact H2
  iexact H3

variable (W : Valuation τ sig (Elt F))

/-- The packed weights' block at a grid point, -/
abbrev wBlk (t : Fin cfg0.N) : S1664x512.Idx → Elt F .i8 :=
  ((cfg0.win 0).blk t).view.read (Elt F) (W (Proc.devRef .tc (Pipeline.arrRef spec0 0)))
/-- and the weight scales' block. -/
abbrev sBlk (t : Fin cfg0.N) : S1x512.Idx → Elt F .f32 :=
  ((cfg0.win 1).blk t).view.read (Elt F) (W (Proc.devRef .tc (Pipeline.arrRef spec0 1)))

/-- The staging memref's contents of the packed weights' block, -/
abbrev wC (c : Dev nD) (t : Fin cfg0.N) : Bf (F := F) c (st0_0 t) := (hstage0_0 ((cfg0.slots t 0).cast nbuf0_0)).unread (wBlk W t)
/-- and of the scales' block. -/
abbrev sC (c : Dev nD) (t : Fin cfg0.N) : Bf (F := F) c (st0_1 t) := (hstage0_1 ((cfg0.slots t 1).cast nbuf0_1)).unread (sBlk W t)

/-- What the decoded weights' block holds after the point, -/
def w8Out (c : Dev nD) (t : Fin cfg0.N) : S1x3328x512.Idx → Elt F .fp8e4m3 :=
  w8Of c (st0_0 t) (st0_2 t) (wC W c t)
/-- and the column sums' block, over what it held before: only three of its eight rows are stored. -/
def colOut (c : Dev nD) (t : Fin cfg0.N) (Y : S1x8x512.Idx → Elt F .f32) : S1x8x512.Idx → Elt F .f32 :=
  colOf c (st0_0 t) (st0_1 t) (st0_3 t) (wC W c t) (sC W c t) ((hstage0_3 ((cfg0.slots t 3).cast nbuf0_3)).unread Y)

/-- What the weight preparation leaves in each window at a point, given what it found. -/
def rel0 (c : Dev nD) : (w : Fin cfg0.W) → Fin cfg0.N → (Y X : (cfg0.win w).block.Idx → Elt F (cfg0.win w).elt) → Prop
  | ⟨0, _⟩ => fun _ Y X => X = Y
  | ⟨1, _⟩ => fun _ Y X => X = Y
  | ⟨2, _⟩ => fun t _ X => X = w8Out W c t
  | ⟨3, _⟩ => fun t Y X => X = colOut W c t Y
  | ⟨_ + 4, h⟩ => absurd h (Nat.not_lt.2 (Nat.le_add_left _ _))

/-- The proof data of the weight preparation, entered from the valuation `W`. -/
def rd0 (c : Dev nD) : RDat τ (Elt F) Unit ℕ UU ℕ cfg0 c where
  A w := W (Proc.devRef .tc (Pipeline.arrRef spec0 w))
  after := rel0 W c
  Φ _ := Pipeline.scopedRest (Ix := Unit) (Name := ℕ) (U := UU) (Lvl := ℕ) (Val := Elt F) spec0 c
  q _ := fullShare
  owed _ := 0

/-- The packed weights' window holds its block when the body runs, -/
theorem finds0_0 (c : Dev nD) (t : Fin cfg0.N) (Y) (h : (rd0 W c).Finds 0 t Y) : Y = wBlk W t := by
  obtain ⟨d, rfl⟩ := (rd0 W c).finds_in_eq_fetched 0 rfl (fun _ _ _ => rfl) (fun _ _ _ h => h) t Y h
  rfl
/-- and the scales' window too. -/
theorem finds0_1 (c : Dev nD) (t : Fin cfg0.N) (Y) (h : (rd0 W c).Finds 1 t Y) : Y = sBlk W t := by
  obtain ⟨d, rfl⟩ := (rd0 W c).finds_in_eq_fetched 1 rfl (fun _ _ _ => rfl) (fun _ _ _ h => h) t Y h
  rfl

set_option backward.isDefEq.respectTransparency.types false in
/-- The weight preparation meets its proof data at every grid point. -/
theorem body0 (c : Dev nD) : (rd0 W c).BodyObligation (defs₀ (F := F)) Variants.none () Set.univ := fun t Y hY => by
  have e0 := finds0_0 W c t (Y 0) (hY 0)
  have e1 := finds0_1 W c t (Y 1) (hY 1)
  rw [bigSep_W0, bigSep_W0]
  rw [show (rd0 W c).Φ t.castSucc = (rd0 W c).Φ t.succ from rfl,
    show (rd0 W c).owesAt () t.castSucc = (rd0 W c).owesAt () t.succ from rfl]
  rw [e0, e1]
  iintro ⟨HΦ, HO, H0, H1, H2, H3⟩
  iapply (prep_owns (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (wBlk W t) (sBlk W t) (Y 2) (Y 3))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists (wBlk W t); isplitr; · ipureintro; exact rfl
    iexact H0
  isplitl [H1]
  · iexists (sBlk W t); isplitr; · ipureintro; exact rfl
    iexact H1
  isplitl [H2]
  · iexists (w8Out W c t); isplitr; · ipureintro; exact rfl
    iexact H2
  · iexists (colOut W c t (Y 3)); isplitr; · ipureintro; exact rfl
    iexact H3

end Cert.Proof.Kernel

end
-- ==== Proof.Kernel.Body1.lean ====
module

public import proofs.«01_k».proof.Proof.Gen.Kernel.Points
public import proofs.«01_k».proof.Proof.Gen.Kernel.Launch
public import proofs.«01_k».proof.Proof.Gen.Kernel.Skeleton
public import Idealize.ShloMosaic.Lib.Pipeline.RegionsLoop
public import Idealize.ShloMosaic.Lib.Tactic
public import proofs.«01_k».proof.Proof.Kernel.BodyA
public import proofs.«01_k».proof.Proof.Kernel.BodyB
public import proofs.«01_k».proof.Proof.Kernel.Data0

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

/-- The rows of the scale and zero-point arrays that a grid point stores lie inside them. -/
theorem offInb (i : grid1.Coords) : ∀ d, (k1_off2 i) d + S1x256.size d ≤ S12x1536.size d := by
  revert i; decide +kernel

/-- The strip of the scales that a point stores, -/
abbrev scaleStrip (c : Dev nD) (i : grid1.Coords) (M0 : Memref sig .tc .vmem S256x3584 .bf16) (f0 : Bf (F := F) c M0) :
    List (View.Piece (Elt F) S12x1536 EltTy.f32) :=
  [⟨Rect.unit (k1_off2 i) S1x256.size (offInb i), k1_pay110 (stepRun.sl.r_13 c M0 f0)⟩]
/-- and of the zero points. -/
abbrev zeroStrip (c : Dev nD) (i : grid1.Coords) (M0 : Memref sig .tc .vmem S256x3584 .bf16) (f0 : Bf (F := F) c M0) :
    List (View.Piece (Elt F) S12x1536 EltTy.f32) :=
  [⟨Rect.unit (k1_off2 i) S1x256.size (offInb i), k1_pay111 (stepRun.sl.r_14 c M0 f0)⟩]

/-- What a point leaves in the codes' block, -/
def codesOf (c : Dev nD) (M0 : Memref sig .tc .vmem S256x3584 .bf16) (M5 : Memref sig .tc .vmem S256x3328 .i8) (f0 : Bf (F := F) c M0) :
    S256x3328.Idx → Elt F .i8 :=
  M5.view.read (Elt F) (M5.view.writes (Elt F) M5.view.junk (stepRun.sl.H5_13 c M0 f0))
/-- in the scales, over what they held, -/
def scaleOf (c : Dev nD) (i : grid1.Coords) (M0 : Memref sig .tc .vmem S256x3584 .bf16) (M6 : Memref sig .tc .vmem S12x1536 .f32)
    (f0 : Bf (F := F) c M0) (f6 : Bf (F := F) c M6) : S12x1536.Idx → Elt F .f32 :=
  M6.view.read (Elt F) (M6.view.writes (Elt F) f6 (scaleStrip c i M0 f0))
/-- and in the zero points. -/
def zeroOf (c : Dev nD) (i : grid1.Coords) (M0 : Memref sig .tc .vmem S256x3584 .bf16) (M7 : Memref sig .tc .vmem S12x1536 .f32)
    (f0 : Bf (F := F) c M0) (f7 : Bf (F := F) c M7) : S12x1536.Idx → Elt F .f32 :=
  M7.view.read (Elt F) (M7.view.writes (Elt F) f7 (zeroStrip c i M0 f0))

/-- What a point leaves of its rows for the next one: the codes less eight, -/
def qOf (c : Dev nD) (M0 : Memref sig .tc .vmem S256x3584 .bf16) (M8 : Memref sig .tc .vmem S256x3328 .fp8e4m3) (f0 : Bf (F := F) c M0) : Bf (F := F) c M8 :=
  M8.view.writes (Elt F) M8.view.junk (stepRun.sl.H8_13 c M0 f0)
/-- the outlier columns, -/
def oOf (c : Dev nD) (M0 : Memref sig .tc .vmem S256x3584 .bf16) (M9 : Memref sig .tc .vmem S256x256 .bf16) (f0 : Bf (F := F) c M0) : Bf (F := F) c M9 :=
  M9.view.writes (Elt F) M9.view.junk (stepRun.sl.H9_1 c M0 f0)
/-- the scales -/
def sOf (c : Dev nD) (M0 : Memref sig .tc .vmem S256x3584 .bf16) (M10 : Memref sig .tc .vmem S256x128 .f32) (f0 : Bf (F := F) c M0) : Bf (F := F) c M10 :=
  M10.view.writes (Elt F) M10.view.junk (stepRun.sl.H10_1 c M0 f0)
/-- and the zero points. -/
def zOf (c : Dev nD) (M0 : Memref sig .tc .vmem S256x3584 .bf16) (M11 : Memref sig .tc .vmem S256x128 .f32) (f0 : Bf (F := F) c M0) : Bf (F := F) c M11 :=
  M11.view.writes (Elt F) M11.view.junk (stepRun.sl.H11_1 c M0 f0)

/-- What a later point leaves in the product's block. -/
def yOf (c : Dev nD) (M1 : Memref sig .tc .vmem S19x3328x512 .fp8e4m3) (M2 : Memref sig .tc .vmem S19x8x512 .f32) (M3 : Memref sig .tc .vmem S256x9728 .bf16) (M4 : Memref sig .tc .vmem S256x9728 .bf16) (M8 : Memref sig .tc .vmem S256x3328 .fp8e4m3) (M9 : Memref sig .tc .vmem S256x256 .bf16) (M10 : Memref sig .tc .vmem S256x128 .f32) (M11 : Memref sig .tc .vmem S256x128 .f32) (M12 : Memref sig .tc .vmem S256x3328 .fp8e4m3) (M13 : Memref sig .tc .vmem S256x256 .bf16) (M14 : Memref sig .tc .vmem S256x128 .f32) (M15 : Memref sig .tc .vmem S256x128 .f32)
    (f1 : Bf (F := F) c M1) (f2 : Bf (F := F) c M2) (f3 : Bf (F := F) c M3) (f8 : Bf (F := F) c M8) (f9 : Bf (F := F) c M9) (f10 : Bf (F := F) c M10) (f11 : Bf (F := F) c M11) :
    S256x9728.Idx → Elt F .bf16 :=
  M4.view.read (Elt F) (M4.view.writes (Elt F) M4.view.junk (stepRun.sl.H4_19 c M1 M2 M3 M8 M9 M10 M11 M12 M13 M14 M15 f1 f2 f3 f8 f9 f10 f11))

set_option maxHeartbeats 1000000 in
/-- The contents that the first grid point leaves. -/
theorem firstRun_val (c : Dev nD) (i : grid1.Coords) (hc1 : k1_cond1 i = 1#1) (hc2 : ¬ k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (f0 : Bf (F := F) c M0) (f1 : Bf (F := F) c M1) (f2 : Bf (F := F) c M2) (f3 : Bf (F := F) c M3) (f4 : Bf (F := F) c M4) (f6 : Bf (F := F) c M6) (f7 : Bf (F := F) c M7) (f12 : Bf (F := F) c M12) (f13 : Bf (F := F) c M13) (f14 : Bf (F := F) c M14) (f15 : Bf (F := F) c M15) :
    (firstRun (F := F) c i hc1 hc2 M0 h0 M1 h1 M2 h2 M3 h3 M4 h4 M5 h5 M6 h6 M7 h7 M8 h8 M9 h9 M10 h10 M11 h11 M12 h12 M13 h13 M14 h14 M15 h15 f0 f1 f2 f3 f4 f6 f7 f12 f13 f14 f15).1
      = (M5.view.writes (Elt F) M5.view.junk (stepRun.sl.H5_13 c M0 f0),
        M6.view.writes (Elt F) f6 (scaleStrip c i M0 f0),
        M7.view.writes (Elt F) f7 (zeroStrip c i M0 f0),
        qOf c M0 M8 f0,
        oOf c M0 M9 f0,
        sOf c M0 M10 f0,
        zOf c M0 M11 f0) := rfl

set_option maxHeartbeats 1000000 in
/-- The first grid point, over memrefs owned at what they read and scratch buffers held at contents. -/
theorem first_owns (c : Dev nD) (i : grid1.Coords) (hc1 : k1_cond1 i = 1#1) (hc2 : ¬ k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (X0 : S256x3584.Idx → Elt F .bf16) (X1 : S19x3328x512.Idx → Elt F .fp8e4m3) (X2 : S19x8x512.Idx → Elt F .f32) (X3 : S256x9728.Idx → Elt F .bf16) (Y4 : S256x9728.Idx → Elt F .bf16) (Y5 : S256x3328.Idx → Elt F .i8) (Y6 : S12x1536.Idx → Elt F .f32) (Y7 : S12x1536.Idx → Elt F .f32)
    (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare Y4 ∗ owns (c : Thread nD τ) M5 fullShare Y5 ∗ owns (c : Thread nD τ) M6 fullShare Y6 ∗ owns (c : Thread nD τ) M7 fullShare Y7 ∗ pt c M8 f8 ∗ pt c M9 f9 ∗ pt c M10 f10 ∗ pt c M11 f11 ∗ pt c M12 f12 ∗ pt c M13 f13 ∗ pt c M14 f14 ∗ pt c M15 f15
      ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare Y4 ∗ owns (c : Thread nD τ) M5 fullShare (codesOf c M0 M5 (h0.unread X0)) ∗ owns (c : Thread nD τ) M6 fullShare (scaleOf c i M0 M6 (h0.unread X0) (h6.unread Y6)) ∗ owns (c : Thread nD τ) M7 fullShare (zeroOf c i M0 M7 (h0.unread X0) (h7.unread Y7)) ∗ pt c M8 (qOf c M0 M8 (h0.unread X0)) ∗ pt c M9 (oOf c M0 M9 (h0.unread X0)) ∗ pt c M10 (sOf c M0 M10 (h0.unread X0)) ∗ pt c M11 (zOf c M0 M11 (h0.unread X0)) ∗ pt c M12 f12 ∗ pt c M13 f13 ∗ pt c M14 f14 ∗ pt c M15 f15) -∗ Q ⟨⟩))
    ⊢ wp frame (wpE (defs₀ (F := F)) Variants.none c none) Set.univ (cc1_quant_matmul i M0 h0 M1 h1 M2 h2 M3 h3 M4 h4 M5 h5 M6 h6 M7 h7 M8 h8 M9 h9 M10 h10 M11 h11 M12 h12 M13 h13 M14 h14 M15 h15) Q := by
  have hrun := (firstRun (F := F) c i hc1 hc2 M0 h0 M1 h1 M2 h2 M3 h3 M4 h4 M5 h5 M6 h6 M7 h7 M8 h8 M9 h9 M10 h10 M11 h11 M12 h12 M13 h13 M14 h14 M15 h15 (h0.unread X0) (h1.unread X1) (h2.unread X2) (h3.unread X3) (h4.unread Y4) (h6.unread Y6) (h7.unread Y7) f12 f13 f14 f15).2 (h5.unread Y5) f8 f9 f10 f11 Set.univ Q
  rw [firstRun_val] at hrun
  iintro ⟨H0, H1, H2, H3, H4, H5, H6, H7, H8, H9, H10, H11, H12, H13, H14, H15, Hk⟩
  ihave H0 := (owns_pt c M0 h0 X0) $$ H0
  ihave H1 := (owns_pt c M1 h1 X1) $$ H1
  ihave H2 := (owns_pt c M2 h2 X2) $$ H2
  ihave H3 := (owns_pt c M3 h3 X3) $$ H3
  ihave H4 := (owns_pt c M4 h4 Y4) $$ H4
  ihave H5 := (owns_pt c M5 h5 Y5) $$ H5
  ihave H6 := (owns_pt c M6 h6 Y6) $$ H6
  ihave H7 := (owns_pt c M7 h7 Y7) $$ H7
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]; · iapply (pt_owns c M0 h0 _ _ (h0.read_unread X0)); iexact H0
  isplitl [H1]; · iapply (pt_owns c M1 h1 _ _ (h1.read_unread X1)); iexact H1
  isplitl [H2]; · iapply (pt_owns c M2 h2 _ _ (h2.read_unread X2)); iexact H2
  isplitl [H3]; · iapply (pt_owns c M3 h3 _ _ (h3.read_unread X3)); iexact H3
  isplitl [H4]; · iapply (pt_owns c M4 h4 _ _ (h4.read_unread Y4)); iexact H4
  isplitl [H5]; · iapply (pt_owns c M5 h5 _ _ rfl); iexact H5
  isplitl [H6]; · iapply (pt_owns c M6 h6 _ _ rfl); iexact H6
  isplitl [H7]; · iapply (pt_owns c M7 h7 _ _ rfl); iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 1000000 in
/-- The contents that a later grid point leaves. -/
theorem stepRun_val (c : Dev nD) (i : grid1.Coords) (hc1 : ¬ k1_cond1 i = 1#1) (hc2 : k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (f0 : Bf (F := F) c M0) (f1 : Bf (F := F) c M1) (f2 : Bf (F := F) c M2) (f3 : Bf (F := F) c M3) (f6 : Bf (F := F) c M6) (f7 : Bf (F := F) c M7) (f8 : Bf (F := F) c M8) (f9 : Bf (F := F) c M9) (f10 : Bf (F := F) c M10) (f11 : Bf (F := F) c M11) :
    (stepRun (F := F) c i hc1 hc2 M0 h0 M1 h1 M2 h2 M3 h3 M4 h4 M5 h5 M6 h6 M7 h7 M8 h8 M9 h9 M10 h10 M11 h11 M12 h12 M13 h13 M14 h14 M15 h15 f0 f1 f2 f3 f6 f7 f8 f9 f10 f11).1
      = (M4.view.writes (Elt F) M4.view.junk (stepRun.sl.H4_19 c M1 M2 M3 M8 M9 M10 M11 M12 M13 M14 M15 f1 f2 f3 f8 f9 f10 f11),
        M5.view.writes (Elt F) M5.view.junk (stepRun.sl.H5_13 c M0 f0),
        M6.view.writes (Elt F) f6 (scaleStrip c i M0 f0),
        M7.view.writes (Elt F) f7 (zeroStrip c i M0 f0),
        qOf c M0 M8 f0,
        oOf c M0 M9 f0,
        sOf c M0 M10 f0,
        zOf c M0 M11 f0,
        M12.view.writes (Elt F) M12.view.junk (stepRun.sl.H12_1 c M8 f8),
        M13.view.writes (Elt F) M13.view.junk (stepRun.sl.H13_1 c M9 f9),
        M14.view.writes (Elt F) M14.view.junk (stepRun.sl.H14_1 c M10 f10),
        M15.view.writes (Elt F) M15.view.junk (stepRun.sl.H15_1 c M11 f11)) := rfl

set_option maxHeartbeats 1000000 in
/-- A later grid point, over memrefs owned at what they read and scratch buffers held at contents. -/
theorem step_owns (c : Dev nD) (i : grid1.Coords) (hc1 : ¬ k1_cond1 i = 1#1) (hc2 : k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (X0 : S256x3584.Idx → Elt F .bf16) (X1 : S19x3328x512.Idx → Elt F .fp8e4m3) (X2 : S19x8x512.Idx → Elt F .f32) (X3 : S256x9728.Idx → Elt F .bf16) (Y4 : S256x9728.Idx → Elt F .bf16) (Y5 : S256x3328.Idx → Elt F .i8) (Y6 : S12x1536.Idx → Elt F .f32) (Y7 : S12x1536.Idx → Elt F .f32)
    (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare Y4 ∗ owns (c : Thread nD τ) M5 fullShare Y5 ∗ owns (c : Thread nD τ) M6 fullShare Y6 ∗ owns (c : Thread nD τ) M7 fullShare Y7 ∗ pt c M8 f8 ∗ pt c M9 f9 ∗ pt c M10 f10 ∗ pt c M11 f11 ∗ pt c M12 f12 ∗ pt c M13 f13 ∗ pt c M14 f14 ∗ pt c M15 f15
      ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare (yOf c M1 M2 M3 M4 M8 M9 M10 M11 M12 M13 M14 M15 (h1.unread X1) (h2.unread X2) (h3.unread X3) f8 f9 f10 f11) ∗ owns (c : Thread nD τ) M5 fullShare (codesOf c M0 M5 (h0.unread X0)) ∗ owns (c : Thread nD τ) M6 fullShare (scaleOf c i M0 M6 (h0.unread X0) (h6.unread Y6)) ∗ owns (c : Thread nD τ) M7 fullShare (zeroOf c i M0 M7 (h0.unread X0) (h7.unread Y7)) ∗ pt c M8 (qOf c M0 M8 (h0.unread X0)) ∗ pt c M9 (oOf c M0 M9 (h0.unread X0)) ∗ pt c M10 (sOf c M0 M10 (h0.unread X0)) ∗ pt c M11 (zOf c M0 M11 (h0.unread X0)) ∗ (∃ g : Bf (F := F) c M12, pt c M12 g) ∗ (∃ g : Bf (F := F) c M13, pt c M13 g) ∗ (∃ g : Bf (F := F) c M14, pt c M14 g) ∗ (∃ g : Bf (F := F) c M15, pt c M15 g)) -∗ Q ⟨⟩))
    ⊢ wp frame (wpE (defs₀ (F := F)) Variants.none c none) Set.univ (cc1_quant_matmul i M0 h0 M1 h1 M2 h2 M3 h3 M4 h4 M5 h5 M6 h6 M7 h7 M8 h8 M9 h9 M10 h10 M11 h11 M12 h12 M13 h13 M14 h14 M15 h15) Q := by
  have hrun := (stepRun (F := F) c i hc1 hc2 M0 h0 M1 h1 M2 h2 M3 h3 M4 h4 M5 h5 M6 h6 M7 h7 M8 h8 M9 h9 M10 h10 M11 h11 M12 h12 M13 h13 M14 h14 M15 h15 (h0.unread X0) (h1.unread X1) (h2.unread X2) (h3.unread X3) (h6.unread Y6) (h7.unread Y7) f8 f9 f10 f11).2 (h4.unread Y4) (h5.unread Y5) f12 f13 f14 f15 Set.univ Q
  rw [stepRun_val] at hrun
  iintro ⟨H0, H1, H2, H3, H4, H5, H6, H7, H8, H9, H10, H11, H12, H13, H14, H15, Hk⟩
  ihave H0 := (owns_pt c M0 h0 X0) $$ H0
  ihave H1 := (owns_pt c M1 h1 X1) $$ H1
  ihave H2 := (owns_pt c M2 h2 X2) $$ H2
  ihave H3 := (owns_pt c M3 h3 X3) $$ H3
  ihave H4 := (owns_pt c M4 h4 Y4) $$ H4
  ihave H5 := (owns_pt c M5 h5 Y5) $$ H5
  ihave H6 := (owns_pt c M6 h6 Y6) $$ H6
  ihave H7 := (owns_pt c M7 h7 Y7) $$ H7
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]; · iapply (pt_owns c M0 h0 _ _ (h0.read_unread X0)); iexact H0
  isplitl [H1]; · iapply (pt_owns c M1 h1 _ _ (h1.read_unread X1)); iexact H1
  isplitl [H2]; · iapply (pt_owns c M2 h2 _ _ (h2.read_unread X2)); iexact H2
  isplitl [H3]; · iapply (pt_owns c M3 h3 _ _ (h3.read_unread X3)); iexact H3
  isplitl [H4]; · iapply (pt_owns c M4 h4 _ _ rfl); iexact H4
  isplitl [H5]; · iapply (pt_owns c M5 h5 _ _ rfl); iexact H5
  isplitl [H6]; · iapply (pt_owns c M6 h6 _ _ rfl); iexact H6
  isplitl [H7]; · iapply (pt_owns c M7 h7 _ _ rfl); iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iexists _; iexact H15

end Cert.Proof.Kernel

end
-- ==== Proof.Kernel.Data1.lean ====
module

public import proofs.«01_k».proof.Proof.Gen.Kernel.Points
public import proofs.«01_k».proof.Proof.Gen.Kernel.Launch
public import proofs.«01_k».proof.Proof.Gen.Kernel.Skeleton
public import Idealize.ShloMosaic.Lib.Pipeline.RegionsLoop
public import Idealize.ShloMosaic.Lib.Tactic
public import proofs.«01_k».proof.Proof.Kernel.Body1

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (W : Valuation τ sig (Elt F))
/-- The block of the activations at a grid point, -/
abbrev xBlk (t : Fin cfg1.N) : S256x3584.Idx → Elt F .bf16 :=
  ((cfg1.win 0).blk t).view.read (Elt F) (W (Proc.devRef .tc (Pipeline.arrRef spec1 0)))
/-- and the contents of its staging memref that read so. -/
abbrev xC (c : Dev nD) (t : Fin cfg1.N) : Bf (F := F) c (st1_0 t) := (hstage1_0 ((cfg1.slots t 0).cast nbuf1_0)).unread (xBlk W t)
/-- The block of the decoded weights at a grid point, -/
abbrev w8Blk (t : Fin cfg1.N) : S19x3328x512.Idx → Elt F .fp8e4m3 :=
  ((cfg1.win 1).blk t).view.read (Elt F) (W (Proc.devRef .tc (Pipeline.arrRef spec1 1)))
/-- and the contents of its staging memref that read so. -/
abbrev w8C (c : Dev nD) (t : Fin cfg1.N) : Bf (F := F) c (st1_1 t) := (hstage1_1 ((cfg1.slots t 1).cast nbuf1_1)).unread (w8Blk W t)
/-- The block of the column sums at a grid point, -/
abbrev colBlk (t : Fin cfg1.N) : S19x8x512.Idx → Elt F .f32 :=
  ((cfg1.win 2).blk t).view.read (Elt F) (W (Proc.devRef .tc (Pipeline.arrRef spec1 2)))
/-- and the contents of its staging memref that read so. -/
abbrev colC (c : Dev nD) (t : Fin cfg1.N) : Bf (F := F) c (st1_2 t) := (hstage1_2 ((cfg1.slots t 2).cast nbuf1_2)).unread (colBlk W t)
/-- The block of the outlier weights at a grid point, -/
abbrev woBlk (t : Fin cfg1.N) : S256x9728.Idx → Elt F .bf16 :=
  ((cfg1.win 3).blk t).view.read (Elt F) (W (Proc.devRef .tc (Pipeline.arrRef spec1 3)))
/-- and the contents of its staging memref that read so. -/
abbrev woC (c : Dev nD) (t : Fin cfg1.N) : Bf (F := F) c (st1_3 t) := (hstage1_3 ((cfg1.slots t 3).cast nbuf1_3)).unread (woBlk W t)

/-- What the product's block holds after the point `t`, the rows of the point `s` being kept. -/
def yOut (c : Dev nD) (s t : Fin cfg1.N) : S256x9728.Idx → Elt F .bf16 :=
  yOf c (st1_1 t) (st1_2 t) (st1_3 t) (st1_4 t) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7)
    (w8C W c t) (colC W c t) (woC W c t) (qOf c (st1_0 s) (Memref.whole cc1_scratch0) (xC W c s)) (oOf c (st1_0 s) (Memref.whole cc1_scratch1) (xC W c s))
    (sOf c (st1_0 s) (Memref.whole cc1_scratch2) (xC W c s)) (zOf c (st1_0 s) (Memref.whole cc1_scratch3) (xC W c s))
/-- What the codes' block holds after the point, -/
def codesOut (c : Dev nD) (t : Fin cfg1.N) : S256x3328.Idx → Elt F .i8 := codesOf c (st1_0 t) (st1_5 t) (xC W c t)
/-- the scales, over what they held, -/
def scaleOut (c : Dev nD) (t : Fin cfg1.N) (Y : S12x1536.Idx → Elt F .f32) : S12x1536.Idx → Elt F .f32 :=
  scaleOf c (grid1.coords t) (st1_0 t) (st1_6 t) (xC W c t) ((hstage1_6 ((cfg1.slots t 6).cast nbuf1_6)).unread Y)
/-- and the zero points. -/
def zeroOut (c : Dev nD) (t : Fin cfg1.N) (Y : S12x1536.Idx → Elt F .f32) : S12x1536.Idx → Elt F .f32 :=
  zeroOf c (grid1.coords t) (st1_0 t) (st1_7 t) (xC W c t) ((hstage1_7 ((cfg1.slots t 7).cast nbuf1_7)).unread Y)

/-- What the main kernel leaves in each window at a point, given what it found: the first point leaves the product's
    block as it is, each later one stores the product of the rows before. -/
def rel1 (c : Dev nD) : (w : Fin cfg1.W) → Fin cfg1.N → (Y X : (cfg1.win w).block.Idx → Elt F (cfg1.win w).elt) → Prop
  | ⟨0, _⟩ => fun _ Y X => X = Y
  | ⟨1, _⟩ => fun _ Y X => X = Y
  | ⟨2, _⟩ => fun _ Y X => X = Y
  | ⟨3, _⟩ => fun _ Y X => X = Y
  | ⟨4, _⟩ => fun t _ X => ∀ s : Fin cfg1.N, s.val + 1 = t.val → X = yOut W c s t
  | ⟨5, _⟩ => fun t _ X => X = codesOut W c t
  | ⟨6, _⟩ => fun t Y X => X = scaleOut W c t Y
  | ⟨7, _⟩ => fun t Y X => X = zeroOut W c t Y
  | ⟨_ + 8, h⟩ => absurd h (Nat.not_lt.2 (Nat.le_add_left _ _))

/-- The scratch buffers before the point `k`: the rows of the point before are kept in the first four. -/
def kept (c : Dev nD) (k : ℕ) : sProp 𝕄 :=
  iprop((∃ f : Bf (F := F) c (Memref.whole cc1_scratch0), ⌜∀ s : Fin cfg1.N, s.val + 1 = k → f = qOf c (st1_0 s) (Memref.whole cc1_scratch0) (xC W c s)⌝ ∗ pt c (Memref.whole cc1_scratch0) f) ∗ (∃ f : Bf (F := F) c (Memref.whole cc1_scratch1), ⌜∀ s : Fin cfg1.N, s.val + 1 = k → f = oOf c (st1_0 s) (Memref.whole cc1_scratch1) (xC W c s)⌝ ∗ pt c (Memref.whole cc1_scratch1) f) ∗ (∃ f : Bf (F := F) c (Memref.whole cc1_scratch2), ⌜∀ s : Fin cfg1.N, s.val + 1 = k → f = sOf c (st1_0 s) (Memref.whole cc1_scratch2) (xC W c s)⌝ ∗ pt c (Memref.whole cc1_scratch2) f) ∗ (∃ f : Bf (F := F) c (Memref.whole cc1_scratch3), ⌜∀ s : Fin cfg1.N, s.val + 1 = k → f = zOf c (st1_0 s) (Memref.whole cc1_scratch3) (xC W c s)⌝ ∗ pt c (Memref.whole cc1_scratch3) f) ∗ (∃ f : Bf (F := F) c (Memref.whole cc1_scratch4), pt c (Memref.whole cc1_scratch4) f) ∗ (∃ f : Bf (F := F) c (Memref.whole cc1_scratch5), pt c (Memref.whole cc1_scratch5) f) ∗ (∃ f : Bf (F := F) c (Memref.whole cc1_scratch6), pt c (Memref.whole cc1_scratch6) f) ∗ (∃ f : Bf (F := F) c (Memref.whole cc1_scratch7), pt c (Memref.whole cc1_scratch7) f))

/-- The staging buffers of the weight preparation, which the main kernel does not touch. -/
def idle (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The proof data of the main kernel, entered from the valuation `W`. -/
def rd1 (c : Dev nD) : RDat τ (Elt F) Unit ℕ UU ℕ cfg1 c where
  A w := W (Proc.devRef .tc (Pipeline.arrRef spec1 w))
  after := rel1 W c
  Φ k := iprop(idle c ∗ kept W c k.val)
  q _ := fullShare
  owed _ := 0

/-- The scoped buffers that are no staging buffer of the main kernel are what its first point needs, -/
theorem rest_kept (c : Dev nD) :
    (Pipeline.scopedRest (Ix := Unit) (Name := ℕ) (U := UU) (Lvl := ℕ) (Val := Elt F) spec1 c : sProp 𝕄) ⊢ (rd1 W c).Φ 0 := by
  rw [scopedRest1_eq]
  unfold rd1 idle kept
  dsimp only
  iintro ⟨I0, I1, I2, I3, I4, I5, I6, I7, ⟨%f8, H8⟩, ⟨%f9, H9⟩, ⟨%f10, H10⟩, ⟨%f11, H11⟩, ⟨%f12, H12⟩, ⟨%f13, H13⟩, ⟨%f14, H14⟩, ⟨%f15, H15⟩⟩
  isplitl [I0 I1 I2 I3 I4 I5 I6 I7]
  · isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  isplitl [H8]; · iexists f8; isplitr; (· ipureintro; exact fun s hs => absurd hs (Nat.succ_ne_zero _)); iexact H8
  isplitl [H9]; · iexists f9; isplitr; (· ipureintro; exact fun s hs => absurd hs (Nat.succ_ne_zero _)); iexact H9
  isplitl [H10]; · iexists f10; isplitr; (· ipureintro; exact fun s hs => absurd hs (Nat.succ_ne_zero _)); iexact H10
  isplitl [H11]; · iexists f11; isplitr; (· ipureintro; exact fun s hs => absurd hs (Nat.succ_ne_zero _)); iexact H11
  isplitl [H12]; · iexists f12; iexact H12
  isplitl [H13]; · iexists f13; iexact H13
  isplitl [H14]; · iexists f14; iexact H14
  iexists f15; iexact H15

/-- and it gives them back at the end. -/
theorem kept_rest (c : Dev nD) :
    (rd1 W c).Φ (Fin.last _) ⊢ (Pipeline.scopedRest (Ix := Unit) (Name := ℕ) (U := UU) (Lvl := ℕ) (Val := Elt F) spec1 c : sProp 𝕄) := by
  rw [scopedRest1_eq]
  unfold rd1 idle kept
  dsimp only
  iintro ⟨⟨I0, I1, I2, I3, I4, I5, I6, I7⟩, ⟨%f8, %e8, H8⟩, ⟨%f9, %e9, H9⟩, ⟨%f10, %e10, H10⟩, ⟨%f11, %e11, H11⟩, ⟨%f12, H12⟩, ⟨%f13, H13⟩, ⟨%f14, H14⟩, ⟨%f15, H15⟩⟩
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [H8]; · iexists f8; iexact H8
  isplitl [H9]; · iexists f9; iexact H9
  isplitl [H10]; · iexists f10; iexact H10
  isplitl [H11]; · iexists f11; iexact H11
  isplitl [H12]; · iexists f12; iexact H12
  isplitl [H13]; · iexists f13; iexact H13
  isplitl [H14]; · iexists f14; iexact H14
  iexists f15; iexact H15

/-- The first branch is the first grid point's, -/
theorem cond1_iff : ∀ t : Fin cfg1.N, k1_cond1 (grid1.coords t) = 1#1 ↔ t.val = 0 :=
  (by decide +kernel : ∀ t : Fin grid1.N, k1_cond1 (grid1.coords t) = 1#1 ↔ t.val = 0)
/-- the second every later one's. -/
theorem cond2_iff : ∀ t : Fin cfg1.N, k1_cond2 (grid1.coords t) = 1#1 ↔ t.val ≠ 0 :=
  (by decide +kernel : ∀ t : Fin grid1.N, k1_cond2 (grid1.coords t) = 1#1 ↔ t.val ≠ 0)

/-- The window of the activations holds its block when the body runs. -/
theorem finds1_0 (c : Dev nD) (t : Fin cfg1.N) (Y) (h : (rd1 W c).Finds 0 t Y) : Y = xBlk W t := by
  obtain ⟨d, rfl⟩ := (rd1 W c).finds_in_eq_fetched 0 rfl (fun _ _ _ => rfl) (fun _ _ _ h => h) t Y h
  rfl
/-- The window of the decoded weights holds its block when the body runs. -/
theorem finds1_1 (c : Dev nD) (t : Fin cfg1.N) (Y) (h : (rd1 W c).Finds 1 t Y) : Y = w8Blk W t := by
  obtain ⟨d, rfl⟩ := (rd1 W c).finds_in_eq_fetched 1 rfl (fun _ _ _ => rfl) (fun _ _ _ h => h) t Y h
  rfl
/-- The window of the column sums holds its block when the body runs. -/
theorem finds1_2 (c : Dev nD) (t : Fin cfg1.N) (Y) (h : (rd1 W c).Finds 2 t Y) : Y = colBlk W t := by
  obtain ⟨d, rfl⟩ := (rd1 W c).finds_in_eq_fetched 2 rfl (fun _ _ _ => rfl) (fun _ _ _ h => h) t Y h
  rfl
/-- The window of the outlier weights holds its block when the body runs. -/
theorem finds1_3 (c : Dev nD) (t : Fin cfg1.N) (Y) (h : (rd1 W c).Finds 3 t Y) : Y = woBlk W t := by
  obtain ⟨d, rfl⟩ := (rd1 W c).finds_in_eq_fetched 3 rfl (fun _ _ _ => rfl) (fun _ _ _ h => h) t Y h
  rfl

set_option backward.isDefEq.respectTransparency.types false in
set_option maxHeartbeats 1000000 in
/-- The main kernel meets its proof data at the first grid point. -/
theorem body1_first (c : Dev nD) (t : Fin cfg1.N) (h0 : t.val = 0) (Y : (w : Fin cfg1.W) → (cfg1.win w).block.Idx → Elt F (cfg1.win w).elt)
    (hY : ∀ w, (rd1 W c).Finds w t (Y w)) :
    iprop((rd1 W c).Φ t.castSucc ∗ (rd1 W c).owesAt () t.castSucc
        ∗ bigSep (Finset.univ : Finset (Fin cfg1.W)) fun w => (owns (c : Thread nD τ) ((cfg1.win w).stage (cfg1.slots t w)) fullShare (Y w) : sProp 𝕄))
      ⊢ wp frame (wpE (defs₀ (F := F)) Variants.none c none) Set.univ (defs₀ (F := F) .tc cfg1.body (cfg1.bodyArgs t (cfg1.slots t))) fun _ =>
        iprop((rd1 W c).Φ t.succ ∗ (rd1 W c).owesAt () t.succ
          ∗ bigSep (Finset.univ : Finset (Fin cfg1.W)) fun w => iprop(∃ X, ⌜(rd1 W c).after w t (Y w) X⌝ ∗ owns (c : Thread nD τ) ((cfg1.win w).stage (cfg1.slots t w)) fullShare X)) := by
  have hc1 : k1_cond1 (grid1.coords t) = 1#1 := (cond1_iff t).2 h0
  have hc2 : ¬ k1_cond2 (grid1.coords t) = 1#1 := fun h => (cond2_iff t).1 h h0
  have e0 := finds1_0 W c t (Y 0) (hY 0)
  have e1 := finds1_1 W c t (Y 1) (hY 1)
  have e2 := finds1_2 W c t (Y 2) (hY 2)
  have e3 := finds1_3 W c t (Y 3) (hY 3)
  rw [bigSep_W1, bigSep_W1]
  rw [show (rd1 W c).Φ t.castSucc = iprop(idle c ∗ kept W c t.val) from rfl,
    show (rd1 W c).Φ t.succ = iprop(idle c ∗ kept W c (t.val + 1)) from rfl,
    show (rd1 W c).owesAt () t.castSucc = (rd1 W c).owesAt () t.succ from rfl]
  rw [e0, e1, e2, e3]
  unfold kept
  iintro ⟨⟨HI, ⟨%f8, %e8, H8⟩, ⟨%f9, %e9, H9⟩, ⟨%f10, %e10, H10⟩, ⟨%f11, %e11, H11⟩, ⟨%f12, H12⟩, ⟨%f13, H13⟩, ⟨%f14, H14⟩, ⟨%f15, H15⟩⟩, HO, H0, H1, H2, H3, H4, H5, H6, H7⟩
  iapply (first_owns (F := F) c (grid1.coords t) hc1 hc2 (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
      (xBlk W t) (w8Blk W t) (colBlk W t) (woBlk W t) (Y 4) (Y 5) (Y 6) (Y 7) f8 f9 f10 f11 f12 f13 f14 f15)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  isplitl [HI H8 H9 H10 H11 H12 H13 H14 H15]
  · isplitl [HI]; · iexact HI
    isplitl [H8]; · iexists _; isplitr; (· ipureintro; exact fun s hs => by obtain rfl : s = t := Fin.ext (Nat.succ.inj hs); rfl); iexact H8
    isplitl [H9]; · iexists _; isplitr; (· ipureintro; exact fun s hs => by obtain rfl : s = t := Fin.ext (Nat.succ.inj hs); rfl); iexact H9
    isplitl [H10]; · iexists _; isplitr; (· ipureintro; exact fun s hs => by obtain rfl : s = t := Fin.ext (Nat.succ.inj hs); rfl); iexact H10
    isplitl [H11]; · iexists _; isplitr; (· ipureintro; exact fun s hs => by obtain rfl : s = t := Fin.ext (Nat.succ.inj hs); rfl); iexact H11
    isplitl [H12]; · iexists _; iexact H12
    isplitl [H13]; · iexists _; iexact H13
    isplitl [H14]; · iexists _; iexact H14
    iexists _; iexact H15
  isplitl [HO]; · iexact HO
  isplitl [H0]; · iexists (xBlk W t); isplitr; (· ipureintro; exact rfl); iexact H0
  isplitl [H1]; · iexists (w8Blk W t); isplitr; (· ipureintro; exact rfl); iexact H1
  isplitl [H2]; · iexists (colBlk W t); isplitr; (· ipureintro; exact rfl); iexact H2
  isplitl [H3]; · iexists (woBlk W t); isplitr; (· ipureintro; exact rfl); iexact H3
  isplitl [H4]; · iexists (Y 4); isplitr; (· ipureintro; exact fun s hs => absurd hs (by omega)); iexact H4
  isplitl [H5]; · iexists (codesOut W c t); isplitr; (· ipureintro; exact rfl); iexact H5
  isplitl [H6]; · iexists (scaleOut W c t (Y 6)); isplitr; (· ipureintro; exact rfl); iexact H6
  iexists (zeroOut W c t (Y 7)); isplitr; (· ipureintro; exact rfl); iexact H7

set_option backward.isDefEq.respectTransparency.types false in
set_option maxHeartbeats 1000000 in
/-- The main kernel meets its proof data at every later grid point. -/
theorem body1_step (c : Dev nD) (t : Fin cfg1.N) (s : Fin cfg1.N) (hs : s.val + 1 = t.val) (Y : (w : Fin cfg1.W) → (cfg1.win w).block.Idx → Elt F (cfg1.win w).elt)
    (hY : ∀ w, (rd1 W c).Finds w t (Y w)) :
    iprop((rd1 W c).Φ t.castSucc ∗ (rd1 W c).owesAt () t.castSucc
        ∗ bigSep (Finset.univ : Finset (Fin cfg1.W)) fun w => (owns (c : Thread nD τ) ((cfg1.win w).stage (cfg1.slots t w)) fullShare (Y w) : sProp 𝕄))
      ⊢ wp frame (wpE (defs₀ (F := F)) Variants.none c none) Set.univ (defs₀ (F := F) .tc cfg1.body (cfg1.bodyArgs t (cfg1.slots t))) fun _ =>
        iprop((rd1 W c).Φ t.succ ∗ (rd1 W c).owesAt () t.succ
          ∗ bigSep (Finset.univ : Finset (Fin cfg1.W)) fun w => iprop(∃ X, ⌜(rd1 W c).after w t (Y w) X⌝ ∗ owns (c : Thread nD τ) ((cfg1.win w).stage (cfg1.slots t w)) fullShare X)) := by
  have hc1 : ¬ k1_cond1 (grid1.coords t) = 1#1 := fun h => absurd ((cond1_iff t).1 h) (by omega)
  have hc2 : k1_cond2 (grid1.coords t) = 1#1 := (cond2_iff t).2 (by omega)
  have e0 := finds1_0 W c t (Y 0) (hY 0)
  have e1 := finds1_1 W c t (Y 1) (hY 1)
  have e2 := finds1_2 W c t (Y 2) (hY 2)
  have e3 := finds1_3 W c t (Y 3) (hY 3)
  rw [bigSep_W1, bigSep_W1]
  rw [show (rd1 W c).Φ t.castSucc = iprop(idle c ∗ kept W c t.val) from rfl,
    show (rd1 W c).Φ t.succ = iprop(idle c ∗ kept W c (t.val + 1)) from rfl,
    show (rd1 W c).owesAt () t.castSucc = (rd1 W c).owesAt () t.succ from rfl]
  rw [e0, e1, e2, e3]
  unfold kept
  iintro ⟨⟨HI, ⟨%f8, %e8, H8⟩, ⟨%f9, %e9, H9⟩, ⟨%f10, %e10, H10⟩, ⟨%f11, %e11, H11⟩, ⟨%f12, H12⟩, ⟨%f13, H13⟩, ⟨%f14, H14⟩, ⟨%f15, H15⟩⟩, HO, H0, H1, H2, H3, H4, H5, H6, H7⟩
  obtain rfl := e8 s hs
  obtain rfl := e9 s hs
  obtain rfl := e10 s hs
  obtain rfl := e11 s hs
  iapply (step_owns (F := F) c (grid1.coords t) hc1 hc2 (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
      (xBlk W t) (w8Blk W t) (colBlk W t) (woBlk W t) (Y 4) (Y 5) (Y 6) (Y 7) (qOf c (st1_0 s) (Memref.whole cc1_scratch0) (xC W c s)) (oOf c (st1_0 s) (Memref.whole cc1_scratch1) (xC W c s)) (sOf c (st1_0 s) (Memref.whole cc1_scratch2) (xC W c s)) (zOf c (st1_0 s) (Memref.whole cc1_scratch3) (xC W c s)) f12 f13 f14 f15)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, ⟨%g12, H12⟩, ⟨%g13, H13⟩, ⟨%g14, H14⟩, ⟨%g15, H15⟩⟩
  isplitl [HI H8 H9 H10 H11 H12 H13 H14 H15]
  · isplitl [HI]; · iexact HI
    isplitl [H8]; · iexists _; isplitr; (· ipureintro; exact fun s hs => by obtain rfl : s = t := Fin.ext (Nat.succ.inj hs); rfl); iexact H8
    isplitl [H9]; · iexists _; isplitr; (· ipureintro; exact fun s hs => by obtain rfl : s = t := Fin.ext (Nat.succ.inj hs); rfl); iexact H9
    isplitl [H10]; · iexists _; isplitr; (· ipureintro; exact fun s hs => by obtain rfl : s = t := Fin.ext (Nat.succ.inj hs); rfl); iexact H10
    isplitl [H11]; · iexists _; isplitr; (· ipureintro; exact fun s hs => by obtain rfl : s = t := Fin.ext (Nat.succ.inj hs); rfl); iexact H11
    isplitl [H12]; · iexists _; iexact H12
    isplitl [H13]; · iexists _; iexact H13
    isplitl [H14]; · iexists _; iexact H14
    iexists _; iexact H15
  isplitl [HO]; · iexact HO
  isplitl [H0]; · iexists (xBlk W t); isplitr; (· ipureintro; exact rfl); iexact H0
  isplitl [H1]; · iexists (w8Blk W t); isplitr; (· ipureintro; exact rfl); iexact H1
  isplitl [H2]; · iexists (colBlk W t); isplitr; (· ipureintro; exact rfl); iexact H2
  isplitl [H3]; · iexists (woBlk W t); isplitr; (· ipureintro; exact rfl); iexact H3
  isplitl [H4]; · iexists (yOut W c s t); isplitr; (· ipureintro; exact fun s' hs' => by obtain rfl : s = s' := Fin.ext (by omega); rfl); iexact H4
  isplitl [H5]; · iexists (codesOut W c t); isplitr; (· ipureintro; exact rfl); iexact H5
  isplitl [H6]; · iexists (scaleOut W c t (Y 6)); isplitr; (· ipureintro; exact rfl); iexact H6
  iexists (zeroOut W c t (Y 7)); isplitr; (· ipureintro; exact rfl); iexact H7

/-- The main kernel meets its proof data at every grid point. -/
theorem body1 (c : Dev nD) : (rd1 W c).BodyObligation (defs₀ (F := F)) Variants.none () Set.univ := fun t Y hY => by
  by_cases h0 : t.val = 0
  · exact body1_first W c t h0 Y hY
  · exact body1_step W c t ⟨t.val - 1, by omega⟩ (Nat.succ_pred_eq_of_ne_zero h0) Y hY

end Cert.Proof.Kernel

end
-- ==== Proof.Kernel.Run.lean ====
module

public import proofs.«01_k».proof.Proof.Gen.Kernel.Points
public import proofs.«01_k».proof.Proof.Gen.Kernel.Launch
public import proofs.«01_k».proof.Proof.Gen.Kernel.Skeleton
public import Idealize.ShloMosaic.Lib.Pipeline.RegionsLoop
public import Idealize.ShloMosaic.Lib.Tactic
public import proofs.«01_k».proof.Proof.Gen.Kernel.Regions
public import proofs.«01_k».proof.Proof.Kernel.Data1

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf pin arrRef cellsGhost toksInit HostSeg)
open Cert.Proof.Shared

variable {F : FTy → Type} [FloatOps F]

local notation "𝕄" => MT nD τ sig Unit (Elt F) ℕ UU ℕ

variable (m : (ℓ : Loc nD τ sig) → Buf (Elt F) ℓ)

/-- Contents for every array of the weight preparation, -/
abbrev Arr0 (c : Dev nD) : Type := (w : Fin cfg0.W) → Buf (Elt F) ((cfg0.win w).arr.view.loc (c : Thread nD τ))
/-- and of the main kernel. -/
abbrev Arr1 (c : Dev nD) : Type := (w : Fin cfg1.W) → Buf (Elt F) ((cfg1.win w).arr.view.loc (c : Thread nD τ))

/-- The valuation after the weight preparation, given the contents of its arrays, -/
def after0 (V : Valuation τ sig (Elt F)) {c : Dev nD} (A : Arr0 (F := F) c) : Valuation τ sig (Elt F) :=
  Function.update (Function.update V main_v1_0 (A 2)) main_v1_1 (A 3)
/-- and after the main kernel. -/
def after1 (V : Valuation τ sig (Elt F)) {c : Dev nD} (A : Arr1 (F := F) c) : Valuation τ sig (Elt F) :=
  Function.update (Function.update (Function.update (Function.update V main_v2_0 (A 4)) main_v2_1 (A 5)) main_v2_2 (A 6)) main_v2_3 (A 7)

theorem after0_v1_0 (V : Valuation τ sig (Elt F)) {c : Dev nD} (A : Arr0 (F := F) c) : after0 V A main_v1_0 = A 2 := by
  unfold after0
  rw [Function.update_of_ne (StableHlo.devRef_ne_of_ne (by decide)), Function.update_self]
theorem after0_v1_1 (V : Valuation τ sig (Elt F)) {c : Dev nD} (A : Arr0 (F := F) c) : after0 V A main_v1_1 = A 3 := by
  unfold after0
  rw [Function.update_self]
theorem after0_of (V : Valuation τ sig (Elt F)) {c : Dev nD} (A : Arr0 (F := F) c) (b : Ref sig .tc) (h0 : b ≠ main_v1_0) (h1 : b ≠ main_v1_1) :
    after0 V A b = V b := by
  unfold after0
  rw [Function.update_of_ne (StableHlo.devRef_ne_of_ne h1), Function.update_of_ne (StableHlo.devRef_ne_of_ne h0)]

theorem after1_v2_0 (V : Valuation τ sig (Elt F)) {c : Dev nD} (A : Arr1 (F := F) c) : after1 V A main_v2_0 = A 4 := by
  unfold after1
  rw [Function.update_of_ne (StableHlo.devRef_ne_of_ne (by decide)), Function.update_of_ne (StableHlo.devRef_ne_of_ne (by decide)),
    Function.update_of_ne (StableHlo.devRef_ne_of_ne (by decide)), Function.update_self]
theorem after1_v2_1 (V : Valuation τ sig (Elt F)) {c : Dev nD} (A : Arr1 (F := F) c) : after1 V A main_v2_1 = A 5 := by
  unfold after1
  rw [Function.update_of_ne (StableHlo.devRef_ne_of_ne (by decide)), Function.update_of_ne (StableHlo.devRef_ne_of_ne (by decide)), Function.update_self]
theorem after1_v2_2 (V : Valuation τ sig (Elt F)) {c : Dev nD} (A : Arr1 (F := F) c) : after1 V A main_v2_2 = A 6 := by
  unfold after1
  rw [Function.update_of_ne (StableHlo.devRef_ne_of_ne (by decide)), Function.update_self]
theorem after1_v2_3 (V : Valuation τ sig (Elt F)) {c : Dev nD} (A : Arr1 (F := F) c) : after1 V A main_v2_3 = A 7 := by
  unfold after1
  rw [Function.update_self]
theorem after1_of (V : Valuation τ sig (Elt F)) {c : Dev nD} (A : Arr1 (F := F) c) (b : Ref sig .tc)
    (h0 : b ≠ main_v2_0) (h1 : b ≠ main_v2_1) (h2 : b ≠ main_v2_2) (h3 : b ≠ main_v2_3) : after1 V A b = V b := by
  unfold after1
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- A buffer that is no window's array is none of those the kernel writes. -/
theorem other0 (b : Ref sig .tc) (hb : b ∉ Finset.univ.image (arrRef spec0)) (b' : Ref sig .tc) (h : b' ∈ Finset.univ.image (arrRef spec0)) : b ≠ b' :=
  fun e => hb (e ▸ h)
theorem other1 (b : Ref sig .tc) (hb : b ∉ Finset.univ.image (arrRef spec1)) (b' : Ref sig .tc) (h : b' ∈ Finset.univ.image (arrRef spec1)) : b ≠ b' :=
  fun e => hb (e ▸ h)

/-- The proof data of both pipelines, entered from one valuation. -/
def rdats (W : Dev nD → Valuation τ sig (Elt F)) : (p : Fin 2) → (c : Dev nD) → RDat τ (Elt F) Unit ℕ UU ℕ (pin (pcfgs (F := F)) adm p) c
  | ⟨0, _⟩ => fun c => rd0 (W c) c
  | ⟨1, _⟩ => fun c => rd1 (W c) c
  | ⟨_ + 2, h⟩ => absurd h (Nat.not_lt.2 (Nat.le_add_left _ _))

/-- No cell is booked and none has a level. -/
abbrev L0 : GSem nD τ sig → Finset Unit := fun _ => ∅
abbrev lv0 : GSem nD τ sig → Unit → ℕ := fun _ _ => 0

/-- The launch's own copies of the pipeline library's algebra. -/
abbrev EP0 : Emb (URounds (GSem nD τ sig) Unit) 𝕄 := embAt 0
abbrev EP1 : Emb (URounds (GSem nD τ sig) Unit) 𝕄 := embAt 1

/-- The second launch's ghost state, which waits through the first. -/
def ghost1 (c : Dev nD) : sProp 𝕄 :=
  iprop(cellsGhost (pin (pcfgs (F := F)) adm) EP1 1 c ∗ toksInit (pin (pcfgs (F := F)) adm) EP1 1 c)

/-- The weight preparation's invariant is the scoped buffers that it does not stage in. -/
theorem in0 (W : Valuation τ sig (Elt F)) (c : Dev nD) :
    (Pipeline.scopedRest (Ix := Unit) (Name := ℕ) (U := UU) (Lvl := ℕ) (Val := Elt F) spec0 c : sProp 𝕄) ⊢ (rd0 W c).Φ 0 := by
  unfold rd0; exact .rfl
theorem out0 (W : Valuation τ sig (Elt F)) (c : Dev nD) :
    (rd0 W c).Φ (Fin.last _) ⊢ (Pipeline.scopedRest (Ix := Unit) (Name := ℕ) (U := UU) (Lvl := ℕ) (Val := Elt F) spec0 c : sProp 𝕄) := by
  unfold rd0; exact .rfl

set_option backward.isDefEq.respectTransparency.types false in
/-- The weight preparation as a stretch of the host program. -/
def R0 (o : Dev nD → Valuation τ sig (Elt F)) : RDat.RegionSeg (pcfgs (F := F)) adm (rdats o) () defs₀ Variants.none L0 lv0 0 :=
  regionSeg (pcfgs (F := F)) adm (rdats o) () defs₀ Variants.none L0 lv0 0 launch0.toP rfl
    (fun c => body0 (o c) c) (fun _ _ => rfl) (fun _ _ => rfl)
    (fun c w => by match w with | 0 => rfl | 1 => rfl | 2 => rfl | 3 => rfl)
    (fun c b => o c b) ghost1 (fun _ _ => rfl)
    (fun c A b => after0 (c := c) (o c) A b)
    (fun c A hA w => by
      match w with
      | 0 => exact (show A 0 = o c main_arg1 from by
          have := hA 0; rw [Pipeline.RDat.ArrAt_in _ _ rfl] at this; exact this).trans (after0_of (c := c) (o c) A main_arg1 (by decide) (by decide)).symm
      | 1 => exact (show A 1 = o c main_v0 from by
          have := hA 1; rw [Pipeline.RDat.ArrAt_in _ _ rfl] at this; exact this).trans (after0_of (c := c) (o c) A main_v0 (by decide) (by decide)).symm
      | 2 => exact (after0_v1_0 (c := c) (o c) A).symm
      | 3 => exact (after0_v1_1 (c := c) (o c) A).symm)
    (fun c A b hb => after0_of (c := c) (o c) A b
      (other0 b hb main_v1_0 (by decide)) (other0 b hb main_v1_1 (by decide)))
    (fun c => in0 (o c) c) (fun c => out0 (o c) c)

/-- A valuation that the weight preparation may leave. -/
def prepared (c : Dev nD) (o : Valuation τ sig (Elt F)) : Prop :=
  ∃ A : Arr0 (F := F) c, (∀ w, (rd0 (V1 m c) c).ArrAt w cfg0.N (A w)) ∧ o = after0 (V1 m c) A

set_option backward.isDefEq.respectTransparency.types false in
/-- The main kernel entered from a given valuation. -/
def R1 (o : Valuation τ sig (Elt F)) : RDat.RegionSeg (pcfgs (F := F)) adm (rdats fun _ => o) () defs₀ Variants.none L0 lv0 1 :=
  regionSeg (pcfgs (F := F)) adm (rdats fun _ => o) () defs₀ Variants.none L0 lv0 1 launch1.toP rfl
    (fun c => body1 o c) (fun _ _ => rfl) (fun _ _ => rfl)
    (fun c w => by match w with | 0 => rfl | 1 => rfl | 2 => rfl | 3 => rfl | 4 => rfl | 5 => rfl | 6 => rfl | 7 => rfl)
    (fun c b => o b) (fun _ => BI.emp) (fun _ _ => rfl)
    (fun c A b => after1 (c := c) o A b)
    (fun c A hA w => by
      match w with
      | 0 => exact (show A 0 = o main_arg0 from by
          have := hA 0; rw [Pipeline.RDat.ArrAt_in _ _ rfl] at this; exact this).trans (after1_of _ _ _ (by decide) (by decide) (by decide) (by decide)).symm
      | 1 => exact (show A 1 = o main_v1_0 from by
          have := hA 1; rw [Pipeline.RDat.ArrAt_in _ _ rfl] at this; exact this).trans (after1_of _ _ _ (by decide) (by decide) (by decide) (by decide)).symm
      | 2 => exact (show A 2 = o main_v1_1 from by
          have := hA 2; rw [Pipeline.RDat.ArrAt_in _ _ rfl] at this; exact this).trans (after1_of _ _ _ (by decide) (by decide) (by decide) (by decide)).symm
      | 3 => exact (show A 3 = o main_arg3 from by
          have := hA 3; rw [Pipeline.RDat.ArrAt_in _ _ rfl] at this; exact this).trans (after1_of _ _ _ (by decide) (by decide) (by decide) (by decide)).symm
      | 4 => exact (after1_v2_0 (c := c) o A).symm
      | 5 => exact (after1_v2_1 (c := c) o A).symm
      | 6 => exact (after1_v2_2 (c := c) o A).symm
      | 7 => exact (after1_v2_3 (c := c) o A).symm)
    (fun c A b hb => after1_of _ _ _
      (other1 b hb main_v2_0 (by decide)) (other1 b hb main_v2_1 (by decide))
      (other1 b hb main_v2_2 (by decide)) (other1 b hb main_v2_3 (by decide)))
    (fun c => rest_kept o c) (fun c => kept_rest o c)

/-- The main kernel as a stretch entered from some valuation that the weight preparation may leave. -/
def S1 : HostSeg (Ix := Unit) (Name := ℕ) (U := UU) (Lvl := ℕ) (pcfgs (F := F)) defs₀ Variants.none L0 lv0 :=
  someRegion (pcfgs (F := F)) adm () cellOf_inj defs₀ Variants.none L0 lv0 EP1 1 (fun o => rdats fun _ => o) (fun o c => prepared m c o) (R1 (F := F))

/-- What rides along with the buffers. -/
def rest (_ : Fin 3) (c : Dev nD) : sProp 𝕄 := iprop(ghost1 c ∗ ∃ W, owes (c : Thread nD τ) (0 : CellTallies nD τ sig Unit) W)

/-- The program's items. -/
abbrev items : List (RDat.Seg (pcfgs (F := F)) adm (rdats (V1 m)) () defs₀ Variants.none L0 lv0) :=
  [.host (seg0 m Variants.none L0 lv0 (rest (F := F))), .region (R0 (V1 m)), .host (S1 m)]

/-- The last state of a core: its buffers at a valuation that the two kernels may leave. -/
def last (c : Dev nD) : sProp 𝕄 :=
  iprop(∃ o, ⌜prepared m c o⌝ ∗ ∃ A : Arr1 (F := F) c, ⌜∀ w, (rd1 o c).ArrAt w cfg1.N (A w)⌝ ∗ StableHlo.held (c : Thread nD τ) (Pipeline.ucRefs τ sig) (after1 o A))

/-- The memories that the program may end with, on one core. -/
def Ends (c : Dev nD) (s : MemSt nD τ sig (Elt F)) : Prop :=
  ∃ o, prepared m c o ∧ ∃ A : Arr1 (F := F) c, (∀ w, (rd1 o c).ArrAt w cfg1.N (A w)) ∧ ∀ b ∈ Pipeline.ucRefs τ sig, s.mem (c, b) = after1 o A b

/-- The launch's element of the algebra. -/
def u0 : UU := (fun _ => initOf (Pipeline.cells cfgs cellOf_inj) (Pipeline.launchToks cfgs cellOf_inj), 1)

set_option backward.isDefEq.respectTransparency.types false in
/-- It makes the first launch's ghost element and, on every core, the second launch's ghost state. -/
theorem fund : (ownU u0 : sProp 𝕄) ⊢ |={Set.univ}=> iprop(BI.own (EP0 (initOf (Pipeline.cells (pin (pcfgs (F := F)) adm) cellOf_inj) (Pipeline.launchToks (pin (pcfgs (F := F)) adm) cellOf_inj)))
    ∗ bigSep Finset.univ fun c : Dev nD => (ghost1 c : sProp 𝕄)) := by
  have hsplit : (ownU u0 : sProp 𝕄) ⊢ bigSep Finset.univ fun j : Fin 2 => BI.own ((embAt j : Emb (URounds (GSem nD τ sig) Unit) 𝕄)
      (initOf (Pipeline.cells cfgs cellOf_inj) (Pipeline.launchToks cfgs cellOf_inj))) :=
    own_iprod (fun _ => initOf (Pipeline.cells cfgs cellOf_inj) (Pipeline.launchToks cfgs cellOf_inj))
  have hghost : (BI.own (EP1 (initOf (Pipeline.cells (pin (pcfgs (F := F)) adm) cellOf_inj) (Pipeline.launchToks (pin (pcfgs (F := F)) adm) cellOf_inj))) : sProp 𝕄)
      ⊢ |==> bigSep Finset.univ fun c : Dev nD => (ghost1 c : sProp 𝕄) := by
    refine (Pipeline.fund_ghost (pin (pcfgs (F := F)) adm) EP1 cellOf_inj).trans (BI.bupd_mono ?_)
    unfold ghost1
    rw [bigSep_sep']
    exact sep_mono (bigSep_mono fun c _ => bigSep_elim (Finset.mem_univ _)) (bigSep_mono fun c _ => bigSep_elim (Finset.mem_univ _))
  rw [bigSep_univ_eq_bigSepL [(0 : Fin 2), (1 : Fin 2)] (by decide) (by decide), show (∀ Φ : Fin 2 → sProp 𝕄, bigSepL [(0 : Fin 2), (1 : Fin 2)] Φ = iprop(Φ 0 ∗ Φ 1)) from fun _ => rfl] at hsplit
  iintro H
  ihave H := hsplit $$ H
  icases H with ⟨H0, H1⟩
  imod hghost $$ H1 with H1
  imodintro
  isplitl [H0]; · iexact H0
  iexact H1

set_option backward.isDefEq.respectTransparency.types false in
/-- What the weight preparation is entered from, -/
theorem R0_pre (o : Dev nD → Valuation τ sig (Elt F)) (c : Dev nD) :
    (R0 o).pre c = iprop(unscopedBufs c (fun b => o c b) ∗ ghost1 c ∗ ∃ W, owes (c : Thread nD τ) (0 : CellTallies nD τ sig Unit) W) := by
  rfl
set_option backward.isDefEq.respectTransparency.types false in
/-- and what it leaves. -/
theorem R0_post (o : Dev nD → Valuation τ sig (Elt F)) (c : Dev nD) :
    (R0 o).post c = iprop(∃ A : Arr0 (F := F) c, ⌜∀ w, (rd0 (o c) c).ArrAt w cfg0.N (A w)⌝ ∗ unscopedBufs c (fun b => after0 (o c) A b) ∗ ghost1 c ∗ ∃ W, owes (c : Thread nD τ) (0 : CellTallies nD τ sig Unit) W) := by
  rfl
set_option backward.isDefEq.respectTransparency.types false in
/-- What the main kernel is entered from, -/
theorem R1_pre (o : Valuation τ sig (Elt F)) (c : Dev nD) :
    (R1 o).pre c = iprop(unscopedBufs c (fun b => o b) ∗ BI.emp ∗ ∃ W, owes (c : Thread nD τ) (0 : CellTallies nD τ sig Unit) W) := by
  rfl
set_option backward.isDefEq.respectTransparency.types false in
/-- and what it leaves. -/
theorem R1_post (o : Valuation τ sig (Elt F)) (c : Dev nD) :
    (R1 o).post c = iprop(∃ A : Arr1 (F := F) c, ⌜∀ w, (rd1 o c).ArrAt w cfg1.N (A w)⌝ ∗ unscopedBufs c (fun b => after1 o A b) ∗ BI.emp ∗ ∃ W, owes (c : Thread nD τ) (0 : CellTallies nD τ sig Unit) W) := by
  rfl
set_option backward.isDefEq.respectTransparency.types false in
/-- What the main kernel's stretch is entered from, -/
theorem S1_pre (c : Dev nD) :
    (S1 m).pre c = iprop(∃ o, ⌜prepared m c o⌝ ∗ iprop(unscopedBufs c (fun b => o b) ∗ BI.emp ∗ ∃ W, owes (c : Thread nD τ) (0 : CellTallies nD τ sig Unit) W) ∗ cellsGhost (pin (pcfgs (F := F)) adm) EP1 1 c ∗ toksInit (pin (pcfgs (F := F)) adm) EP1 1 c) := by
  show iprop(∃ o, ⌜prepared m c o⌝ ∗ (R1 o).pre c ∗ cellsGhost (pin (pcfgs (F := F)) adm) EP1 1 c ∗ toksInit (pin (pcfgs (F := F)) adm) EP1 1 c) = _
  simp only [R1_pre]
set_option backward.isDefEq.respectTransparency.types false in
/-- and what it leaves. -/
theorem S1_post (c : Dev nD) :
    (S1 m).post c = iprop(∃ o, ⌜prepared m c o⌝ ∗ iprop(∃ A : Arr1 (F := F) c, ⌜∀ w, (rd1 o c).ArrAt w cfg1.N (A w)⌝ ∗ unscopedBufs c (fun b => after1 o A b) ∗ BI.emp ∗ ∃ W, owes (c : Thread nD τ) (0 : CellTallies nD τ sig Unit) W)) := by
  show iprop(∃ o, ⌜prepared m c o⌝ ∗ (R1 o).post c) = _
  simp only [R1_post]
set_option backward.isDefEq.respectTransparency.types false in
/-- The host line's last state is the weight preparation's first, -/
theorem chainA (c : Dev nD) :
    iprop(StableHlo.held (c : Thread nD τ) (Pipeline.ucRefs τ sig) (V1 m c) ∗ rest 0 c)
      ⊢ iprop(unscopedBufs c (fun b => V1 m c b) ∗ ghost1 c ∗ ∃ W, owes (c : Thread nD τ) (0 : CellTallies nD τ sig Unit) W) := by
  rw [Pipeline.unscopedBufs_held c (V1 m c)]
  unfold rest
  iintro ⟨Hb, Hg, HO⟩
  isplitl [Hb]; · iexact Hb
  isplitl [Hg]; · iexact Hg
  iexact HO
set_option backward.isDefEq.respectTransparency.types false in
/-- its last state is the main kernel's first, -/
theorem chainB (c : Dev nD) :
    iprop(∃ A : Arr0 (F := F) c, ⌜∀ w, (rd0 (V1 m c) c).ArrAt w cfg0.N (A w)⌝ ∗ unscopedBufs c (fun b => after0 (V1 m c) A b) ∗ ghost1 c ∗ ∃ W, owes (c : Thread nD τ) (0 : CellTallies nD τ sig Unit) W)
      ⊢ iprop(∃ o, ⌜prepared m c o⌝ ∗ iprop(unscopedBufs c (fun b => o b) ∗ BI.emp ∗ ∃ W, owes (c : Thread nD τ) (0 : CellTallies nD τ sig Unit) W) ∗ cellsGhost (pin (pcfgs (F := F)) adm) EP1 1 c ∗ toksInit (pin (pcfgs (F := F)) adm) EP1 1 c) := by
  unfold ghost1
  iintro ⟨%A, %hA, Hb, Hg, HO⟩
  iexists (after0 (V1 m c) A)
  isplitr; · ipureintro; exact ⟨A, hA, rfl⟩
  isplitr [Hg]
  · isplitl [Hb]; · iexact Hb
    isplitr; · iempintro
    iexact HO
  iexact Hg
set_option backward.isDefEq.respectTransparency.types false in
/-- and the main kernel's last is the program's. -/
theorem chainC (c : Dev nD) :
    iprop(∃ o, ⌜prepared m c o⌝ ∗ iprop(∃ A : Arr1 (F := F) c, ⌜∀ w, (rd1 o c).ArrAt w cfg1.N (A w)⌝ ∗ unscopedBufs c (fun b => after1 o A b) ∗ BI.emp ∗ ∃ W, owes (c : Thread nD τ) (0 : CellTallies nD τ sig Unit) W))
      ⊢ iprop(last m c ∗ ∃ W, owes (c : Thread nD τ) (0 : CellTallies nD τ sig Unit) W) := by
  unfold last
  iintro ⟨%o, %ho, %A, %hA, Hb, -, HO⟩
  ihave Hb := (BIBase.Entails.of_eq (Pipeline.unscopedBufs_held (Ix := Unit) (Name := ℕ) (U := UU) (Lvl := ℕ) c (after1 o A))) $$ Hb
  isplitl [Hb]
  · iexists o
    isplitr; · ipureintro; exact ho
    iexists A
    isplitr; · ipureintro; exact hA
    iexact Hb
  iexact HO
set_option backward.isDefEq.respectTransparency.types false in
/-- The launch makes the first state. -/
theorem launch (ρ : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ ghost1 c)) ∗ levAts L0 lv0)
      ⊢ (|={Set.univ}=> bigSep Finset.univ fun c : Dev nD => iprop(StableHlo.held (c : Thread nD τ) (Pipeline.ucRefs τ sig) (V0 m c) ∗ rest 0 c) : sProp 𝕄) := by
  have he : ∀ c : Dev nD, (unscopedBufs c (fun b => m ((c.tc : Thread nD τ).loc b)) : sProp 𝕄) ⊢ StableHlo.held (c : Thread nD τ) (Pipeline.ucRefs τ sig) (V0 m c) :=
    fun c => .of_eq (Pipeline.unscopedBufs_held (Ix := Unit) (Name := ℕ) (U := UU) (Lvl := ℕ) c (V0 m c))
  have hc : ∀ c : Dev nD, iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ ghost1 c)
      ⊢ (iprop(StableHlo.held (c : Thread nD τ) (Pipeline.ucRefs τ sig) (V0 m c) ∗ rest 0 c) : sProp 𝕄) := fun c => by
    unfold rest
    iintro ⟨Hb, -, HO, -, -, Hg⟩
    isplitl [Hb]; · iapply (he c); iexact Hb
    isplitl [Hg]; · iexact Hg
    iexists ∅; iexact HO
  have hsplit : (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ ghost1 c))
      ⊢ (bigSep Finset.univ fun c : Dev nD => iprop(StableHlo.held (c : Thread nD τ) (Pipeline.ucRefs τ sig) (V0 m c) ∗ rest 0 c) : sProp 𝕄) :=
    bigSep_mono fun c _ => hc c
  iintro ⟨H, -⟩
  ihave H := hsplit $$ H
  imodintro
  iexact H

set_option backward.isDefEq.respectTransparency.types false in
/-- The last state tells what the memory holds. -/
theorem readOff (c : Dev nD) (s' : Phys nD τ sig (Elt F)) :
    iprop(last m c ∗ SI s') ⊢ |={Set.univ}=> (iprop(⌜Ends m c s'.mem⌝ ∗ SI s') : sProp 𝕄) := by
  unfold last StableHlo.held
  iintro ⟨⟨%o, %ho, %A, %hA, Hh⟩, HSI⟩
  ihave Hr := (pointsTo_read_all (Pipeline.ucRefs τ sig) (fun b => ((c : Thread nD τ).1, b)) (after1 o A) s') $$ [Hh HSI]
  · isplitl [Hh] <;> iassumption
  icases Hr with ⟨%h, HSI⟩
  imodintro
  isplitr
  · ipureintro
    exact ⟨o, ho, A, hA, h⟩
  · iexact HSI

set_option backward.isDefEq.respectTransparency.types false in
/-- Every run of the program ends, with every semaphore counter at zero, in one of the memories described by `Ends`. -/
theorem run_ends (ρ : Dev nD → PrngReg) :
    θ_run defs (onTc (τ := τ) (main (F := F))) ⟨m, fun _ => 0, ρ⟩ (fun r => (∀ c : Dev nD, Ends m c r.2) ∧ r.2.sem = fun _ => 0) := by
  refine RDat.θ_run_regions_kit_dev_sems (pcfgs (F := F)) adm (rdats (V1 m)) () cellOf_inj EP0 defs₀ Variants.none L0 lv0 m ρ main
    (fun _ => items m)
    (fun c Q => by
      rewrite [main_chain c, RDat.Seg.run_eq_chain,
        show (items m).map RDat.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [items, RDat.Seg.pipes_host, RDat.Seg.pipes_region, RDat.Seg.pipes_nil]; decide) (fun _ => 0) (fun _ _ => rfl)
    (fun c => ghost1 c) u0 fund
    (T₀ := fun c => iprop(StableHlo.held (c : Thread nD τ) (Pipeline.ucRefs τ sig) (V0 m c) ∗ rest 0 c))
    (Tₙ := fun c => last m c)
    (hch := fun c => ⟨.rfl, ?_, ?_, ?_⟩)
    (hinit := ?_) (QY := fun c s => Ends m c s)
    (hfin := fun c s' => ?_) (hQ := fun _ h hz => ⟨h, funext fun g => hz g (.inr (regions_no_unscoped g.2))⟩)
  · exact (chainA m c).trans (.of_eq (R0_pre (V1 m) c).symm)
  · exact (BIBase.Entails.of_eq (R0_post (V1 m) c)).trans ((chainB m c).trans (.of_eq (S1_pre m c).symm))
  · exact (BIBase.Entails.of_eq (S1_post m c)).trans (chainC m c)
  · exact launch m ρ
  · exact readOff m c s'

/-- An argument ends as launched. -/
theorem Ends.arg {c : Dev nD} {s : MemSt nD τ sig (Elt F)} (h : Ends m c s) (b : Ref sig .tc) (hu : b.isScoped = false)
    (h1 : b ≠ main_v2_0) (h2 : b ≠ main_v2_1) (h3 : b ≠ main_v2_2) (h4 : b ≠ main_v2_3) (h5 : b ≠ main_v1_0) (h6 : b ≠ main_v1_1)
    (h7 : b ∉ hostOps0_W) : s.mem ((c : Thread nD τ).loc b) = m ((c : Thread nD τ).loc b) := by
  obtain ⟨o, ⟨A0, -, rfl⟩, A, -, hb⟩ := h
  refine (hb (Proc.devRef .tc b) (Finset.mem_filter.mpr ⟨StableHlo.devRef_mem_tcRefs b, ?_⟩)).trans ?_
  · simpa using hu
  · exact (after1_of _ _ _ h1 h2 h3 h4).trans ((after0_of _ _ _ h5 h6).trans ((V1_of m c b h7).trans rfl))

/-- Every run ends with the arguments as launched and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
    ⟨(h.1 c).arg m main_arg0 rfl (by decide) (by decide) (by decide) (by decide) (by decide) (by decide) (by decide),
      (h.1 c).arg m main_arg1 rfl (by decide) (by decide) (by decide) (by decide) (by decide) (by decide) (by decide),
      (h.1 c).arg m main_arg2 rfl (by decide) (by decide) (by decide) (by decide) (by decide) (by decide) (by decide),
      (h.1 c).arg m main_arg3 rfl (by decide) (by decide) (by decide) (by decide) (by decide) (by decide) (by decide)⟩, h.2⟩) (run_ends m ρ)

end Cert.Proof.Kernel

end
-- ==== Proof.KernelIdeal.Base.lean ====
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the whole program: one copy of the pipeline library's algebra for each of the two
    launches, beside the transfers' counters. -/
abbrev UU : Type := IProdConst (Fin 2) (UR sig nD τ) × Counters

local notation "𝕄" => MT nD τ sig Unit (Elt F) ℕ UU ℕ

/-- The contents of the buffer under a memref, on one core. -/
abbrev Bf (c : Dev nD) {sp : Space} {S : Shape} {e : EltTy} (M : Memref sig .tc sp S e) : Type :=
  Buf (Elt F) (M.view.loc (c : Thread nD τ))
/-- The memref's buffer held whole at given contents. -/
abbrev pt (c : Dev nD) {sp : Space} {S : Shape} {e : EltTy} (M : Memref sig .tc sp S e) (f : Bf (F := F) c M) : sProp 𝕄 :=
  M.view.loc (c : Thread nD τ) ↦{fullShare} f

end Cert.Proof.KernelIdeal

end
-- ==== Proof.KernelIdeal.BodyA.lean ====
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic
public import proofs.«01_k».proof.Proof.KernelIdeal.Base

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option sl_exec.parts true in
/-- The first grid point of the main kernel: only the quantiser runs, over the first block of rows. -/
noncomputable def firstRun (c : Dev nD) (i : grid1.Coords) (h1 : k1_cond1 i = 1#1) (h2 : ¬ k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (f0 : Bf (F := F) c M0) (f1 : Bf (F := F) c M1) (f2 : Bf (F := F) c M2) (f3 : Bf (F := F) c M3) (f4 : Bf (F := F) c M4) (f6 : Bf (F := F) c M6) (f7 : Bf (F := F) c M7) (f12 : Bf (F := F) c M12) (f13 : Bf (F := F) c M13) (f14 : Bf (F := F) c M14) (f15 : Bf (F := F) c M15) :
    { W : Bf (F := F) c M5 × Bf (F := F) c M6 × Bf (F := F) c M7 × Bf (F := F) c M8 × Bf (F := F) c M9 × Bf (F := F) c M10 × Bf (F := F) c M11 // ∀ (f5 : Bf (F := F) c M5) (f8 : Bf (F := F) c M8) (f9 : Bf (F := F) c M9) (f10 : Bf (F := F) c M10) (f11 : Bf (F := F) c M11) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ (iprop(pt c M0 f0 ∗ pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2 ∗ pt c M12 f12 ∗ pt c M13 f13 ∗ pt c M14 f14 ∗ pt c M15 f15) -∗ Q ⟨⟩))
          ⊢ wp frame (wpE (defs₀ (F := F)) Variants.none c none) E (cc1_quant_matmul i M0 h0 M1 h1 M2 h2 M3 h3 M4 h4 M5 h5 M6 h6 M7 h7 M8 h8 M9 h9 M10 h10 M11 h11 M12 h12 M13 h13 M14 h14 M15 h15) Q } := by
  refine ⟨⟨?_, ?_, ?_, ?_, ?_, ?_, ?_⟩, fun f5 f8 f9 f10 f11 E Q => ?run⟩
  case run =>
    iintro ⟨H0, H1, H2, H3, H4, H5, H6, H7, H8, H9, H10, H11, H12, H13, H14, H15, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.KernelIdeal

end
-- ==== Proof.KernelIdeal.BodyB.lean ====
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic
public import proofs.«01_k».proof.Proof.KernelIdeal.Base

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option sl_exec.parts true in
/-- A later grid point of the main kernel: the quantised rows of the previous point are copied aside, the next block is quantised, and the product of the copied rows is stored. -/
noncomputable def stepRun (c : Dev nD) (i : grid1.Coords) (h1 : ¬ k1_cond1 i = 1#1) (h2 : k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (f0 : Bf (F := F) c M0) (f1 : Bf (F := F) c M1) (f2 : Bf (F := F) c M2) (f3 : Bf (F := F) c M3) (f6 : Bf (F := F) c M6) (f7 : Bf (F := F) c M7) (f8 : Bf (F := F) c M8) (f9 : Bf (F := F) c M9) (f10 : Bf (F := F) c M10) (f11 : Bf (F := F) c M11) :
    { W : Bf (F := F) c M4 × Bf (F := F) c M5 × Bf (F := F) c M6 × Bf (F := F) c M7 × Bf (F := F) c M8 × Bf (F := F) c M9 × Bf (F := F) c M10 × Bf (F := F) c M11 × Bf (F := F) c M12 × Bf (F := F) c M13 × Bf (F := F) c M14 × Bf (F := F) c M15 // ∀ (f4 : Bf (F := F) c M4) (f5 : Bf (F := F) c M5) (f12 : Bf (F := F) c M12) (f13 : Bf (F := F) c M13) (f14 : Bf (F := F) c M14) (f15 : Bf (F := F) c M15) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ (iprop(pt c M0 f0 ∗ pt c M1 f1 ∗ pt c M2 f2 ∗ pt c M3 f3 ∗ pt c M4 W.1 ∗ pt c M5 W.2.1 ∗ pt c M6 W.2.2.1 ∗ pt c M7 W.2.2.2.1 ∗ pt c M8 W.2.2.2.2.1 ∗ pt c M9 W.2.2.2.2.2.1 ∗ pt c M10 W.2.2.2.2.2.2.1 ∗ pt c M11 W.2.2.2.2.2.2.2.1 ∗ pt c M12 W.2.2.2.2.2.2.2.2.1 ∗ pt c M13 W.2.2.2.2.2.2.2.2.2.1 ∗ pt c M14 W.2.2.2.2.2.2.2.2.2.2.1 ∗ pt c M15 W.2.2.2.2.2.2.2.2.2.2.2) -∗ Q ⟨⟩))
          ⊢ wp frame (wpE (defs₀ (F := F)) Variants.none c none) E (cc1_quant_matmul i M0 h0 M1 h1 M2 h2 M3 h3 M4 h4 M5 h5 M6 h6 M7 h7 M8 h8 M9 h9 M10 h10 M11 h11 M12 h12 M13 h13 M14 h14 M15 h15) Q } := by
  refine ⟨⟨?_, ?_, ?_, ?_, ?_, ?_, ?_, ?_, ?_, ?_, ?_, ?_⟩, fun f4 f5 f12 f13 f14 f15 E Q => ?run⟩
  case run =>
    iintro ⟨H0, H1, H2, H3, H4, H5, H6, H7, H8, H9, H10, H11, H12, H13, H14, H15, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.KernelIdeal

end
-- ==== Proof.KernelIdeal.Body0.lean ====
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic
public import proofs.«01_k».proof.Proof.KernelIdeal.Base

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option sl_exec.parts false in
/-- The weight preparation at one grid point: the contents it leaves in the decoded weights' block and in the column-sum block, with the proof that it runs. -/
noncomputable def prepRun (c : Dev nD) (i : grid0.Coords)  (M0 : Memref sig .tc .vmem S1664x512 .i8) (h0 : M0.IsWhole) (M1 : Memref sig .tc .vmem S1x512 .f32) (h1 : M1.IsWhole) (M2 : Memref sig .tc .vmem S1x3328x512 .fp8e4m3) (h2 : M2.IsWhole) (M3 : Memref sig .tc .vmem S1x8x512 .f32) (h3 : M3.IsWhole)
    (f0 : Bf (F := F) c M0) (f1 : Bf (F := F) c M1) (f3 : Bf (F := F) c M3) :
    { W : Bf (F := F) c M2 × Bf (F := F) c M3 // ∀ (f2 : Bf (F := F) c M2) (E : Set ℕ) (Q : PUnit → sProp 𝕄),
        iprop(pt c M0 f0 ∗ pt c M1 f1 ∗ pt c M2 f2 ∗ pt c M3 f3 ∗ (iprop(pt c M0 f0 ∗ pt c M1 f1 ∗ pt c M2 W.1 ∗ pt c M3 W.2) -∗ Q ⟨⟩))
          ⊢ wp frame (wpE (defs₀ (F := F)) Variants.none c none) E (cc0_prep_weights i M0 h0 M1 h1 M2 h2 M3 h3) Q } := by
  refine ⟨⟨?_, ?_⟩, fun f2 E Q => ?run⟩
  case run =>
    iintro ⟨H0, H1, H2, H3, Hk⟩
    sl_exec!
    sl_step
    iapply Hk
    isplitl [H0]; · iexact H0
    isplitl [H1]; · iexact H1
    isplitl [H2]; · iexact H2
    iexact H3

end Cert.Proof.KernelIdeal

end
-- ==== Proof.KernelIdeal.Data0.lean ====
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic
public import proofs.«01_k».proof.Proof.KernelIdeal.Body0
public import proofs.«01_k».proof.Proof.Shared.Region

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

/-- A whole memref owned at what it reads is its buffer held at those contents. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  have hs := h.set_eq_univ
  unfold owns
  iintro ⟨%f, %hf, H⟩
  obtain rfl := h.eq_unread hf
  rw [hs]
  iexact H

/-- A buffer held at contents is its memref owned at what it reads of them. -/
theorem pt_owns (c : Dev nD) {sp : Space} {S : Shape} {e : EltTy} (M : Memref sig .tc sp S e) (h : M.IsWhole) (f : Bf (F := F) c M)
    (X : S.Idx → Elt F e) (hX : M.view.read (Elt F) f = X) :
    (pt c M f : sProp 𝕄) ⊢ owns (c : Thread nD τ) M fullShare X := by
  subst hX
  have hk : _ ⊢ (_ : sProp 𝕄) := owns_intro (c : Thread nD τ) M fullShare f
  rw [h.set_eq_univ] at hk
  exact hk

/-- The three rows that the body stores into the column sums' block. -/
abbrev colRows (c : Dev nD) (M0 : Memref sig .tc .vmem S1664x512 .i8) (M1 : Memref sig .tc .vmem S1x512 .f32)
    (f0 : Bf (F := F) c M0) (f1 : Bf (F := F) c M1) : List (View.Piece (Elt F) S1x8x512 .f32) :=
  [⟨Rect.unit ![0, 2, 0] S1x1x512.size inb_S1x8x512_S1x1x512_0_2_0,
      k0_pay1 (View.readAt (Elt F) M1.view (Rect.unit ![0, 0] S1x512.size inb_S1x512_S1x512_0_0).toLoadRect f1)⟩,
    ⟨Rect.unit ![0, 1, 0] S1x1x512.size inb_S1x8x512_S1x1x512_0_1_0,
      k0_pay6 (View.readAt (Elt F) M0.view (Rect.unit ![0, 0] S1664x512.size inb_S1664x512_S1664x512_0_0).toLoadRect f0)
        (View.readAt (Elt F) M1.view (Rect.unit ![0, 0] S1x512.size inb_S1x512_S1x512_0_0).toLoadRect f1)⟩,
    ⟨Rect.unit ![0, 0, 0] S1x1x512.size inb_S1x8x512_S1x1x512_0_0_0,
      k0_pay5 (View.readAt (Elt F) M0.view (Rect.unit ![0, 0] S1664x512.size inb_S1664x512_S1664x512_0_0).toLoadRect f0)⟩]

/-- What the point leaves in the decoded weights' block, -/
def w8Of (c : Dev nD) (M0 : Memref sig .tc .vmem S1664x512 .i8) (M2 : Memref sig .tc .vmem S1x3328x512 .fp8e4m3)
    (f0 : Bf (F := F) c M0) : S1x3328x512.Idx → Elt F .fp8e4m3 :=
  M2.view.read (Elt F) (M2.view.writes (Elt F) M2.view.junk (prepRun.sl.H2_1 c M0 f0))
/-- and in the column sums' block, over what it held before: only three of its eight rows are stored. -/
def colOf (c : Dev nD) (M0 : Memref sig .tc .vmem S1664x512 .i8) (M1 : Memref sig .tc .vmem S1x512 .f32)
    (M3 : Memref sig .tc .vmem S1x8x512 .f32) (f0 : Bf (F := F) c M0) (f1 : Bf (F := F) c M1) (f3 : Bf (F := F) c M3) :
    S1x8x512.Idx → Elt F .f32 :=
  M3.view.read (Elt F) (M3.view.writes (Elt F) f3 (colRows c M0 M1 f0 f1))

theorem prepRun_val (c : Dev nD) (i : grid0.Coords) (M0 : Memref sig .tc .vmem S1664x512 .i8) (h0 : M0.IsWhole) (M1 : Memref sig .tc .vmem S1x512 .f32) (h1 : M1.IsWhole) (M2 : Memref sig .tc .vmem S1x3328x512 .fp8e4m3) (h2 : M2.IsWhole) (M3 : Memref sig .tc .vmem S1x8x512 .f32) (h3 : M3.IsWhole)
    (f0 : Bf (F := F) c M0) (f1 : Bf (F := F) c M1) (f3 : Bf (F := F) c M3) :
    (prepRun (F := F) c i M0 h0 M1 h1 M2 h2 M3 h3 f0 f1 f3).1
      = (M2.view.writes (Elt F) M2.view.junk (prepRun.sl.H2_1 c M0 f0), M3.view.writes (Elt F) f3 (colRows c M0 M1 f0 f1)) := rfl

/-- The weight preparation at one point, over memrefs owned at what they read. -/
theorem prep_owns (c : Dev nD) (i : grid0.Coords) (M0 : Memref sig .tc .vmem S1664x512 .i8) (h0 : M0.IsWhole) (M1 : Memref sig .tc .vmem S1x512 .f32) (h1 : M1.IsWhole) (M2 : Memref sig .tc .vmem S1x3328x512 .fp8e4m3) (h2 : M2.IsWhole) (M3 : Memref sig .tc .vmem S1x8x512 .f32) (h3 : M3.IsWhole)
    (X0 : S1664x512.Idx → Elt F .i8) (X1 : S1x512.Idx → Elt F .f32) (Y2 : S1x3328x512.Idx → Elt F .fp8e4m3) (Y3 : S1x8x512.Idx → Elt F .f32) (Q : PUnit → sProp 𝕄) :
    iprop(owns (c : Thread nD τ) M0 fullShare X0 ∗ owns (c : Thread nD τ) M1 fullShare X1 ∗ owns (c : Thread nD τ) M2 fullShare Y2 ∗ owns (c : Thread nD τ) M3 fullShare Y3
      ∗ (iprop(owns (c : Thread nD τ) M0 fullShare X0 ∗ owns (c : Thread nD τ) M1 fullShare X1 ∗ owns (c : Thread nD τ) M2 fullShare (w8Of c M0 M2 (h0.unread X0))
          ∗ owns (c : Thread nD τ) M3 fullShare (colOf c M0 M1 M3 (h0.unread X0) (h1.unread X1) (h3.unread Y3))) -∗ Q ⟨⟩))
    ⊢ wp frame (wpE (defs₀ (F := F)) Variants.none c none) Set.univ (cc0_prep_weights i M0 h0 M1 h1 M2 h2 M3 h3) Q := by
  have hrun := (prepRun (F := F) c i M0 h0 M1 h1 M2 h2 M3 h3 (h0.unread X0) (h1.unread X1) (h3.unread Y3)).2 (h2.unread Y2) Set.univ Q
  rw [prepRun_val] at hrun
  iintro ⟨H0, H1, H2, H3, Hk⟩
  ihave H0 := (owns_pt c M0 h0 X0) $$ H0
  ihave H1 := (owns_pt c M1 h1 X1) $$ H1
  ihave H2 := (owns_pt c M2 h2 Y2) $$ H2
  ihave H3 := (owns_pt c M3 h3 Y3) $$ H3
  iapply hrun
  isplitl [H0]; · iexact H0
  isplitl [H1]; · iexact H1
  isplitl [H2]; · iexact H2
  isplitl [H3]; · iexact H3
  iintro ⟨H0, H1, H2, H3⟩
  ihave H0 := (pt_owns c M0 h0 _ _ (h0.read_unread X0)) $$ H0
  ihave H1 := (pt_owns c M1 h1 _ _ (h1.read_unread X1)) $$ H1
  ihave H2 := (pt_owns c M2 h2 _ (w8Of c M0 M2 (h0.unread X0)) rfl) $$ H2
  ihave H3 := (pt_owns c M3 h3 _ (colOf c M0 M1 M3 (h0.unread X0) (h1.unread X1) (h3.unread Y3)) rfl) $$ H3
  iapply Hk
  isplitl [H0]; · iexact H0
  isplitl [H1]; · iexact H1
  isplitl [H2]; · iexact H2
  iexact H3

variable (W : Valuation τ sig (Elt F))

/-- The packed weights' block at a grid point, -/
abbrev wBlk (t : Fin cfg0.N) : S1664x512.Idx → Elt F .i8 :=
  ((cfg0.win 0).blk t).view.read (Elt F) (W (Proc.devRef .tc (Pipeline.arrRef spec0 0)))
/-- and the weight scales' block. -/
abbrev sBlk (t : Fin cfg0.N) : S1x512.Idx → Elt F .f32 :=
  ((cfg0.win 1).blk t).view.read (Elt F) (W (Proc.devRef .tc (Pipeline.arrRef spec0 1)))

/-- The staging memref's contents of the packed weights' block, -/
abbrev wC (c : Dev nD) (t : Fin cfg0.N) : Bf (F := F) c (st0_0 t) := (hstage0_0 ((cfg0.slots t 0).cast nbuf0_0)).unread (wBlk W t)
/-- and of the scales' block. -/
abbrev sC (c : Dev nD) (t : Fin cfg0.N) : Bf (F := F) c (st0_1 t) := (hstage0_1 ((cfg0.slots t 1).cast nbuf0_1)).unread (sBlk W t)

/-- What the decoded weights' block holds after the point, -/
def w8Out (c : Dev nD) (t : Fin cfg0.N) : S1x3328x512.Idx → Elt F .fp8e4m3 :=
  w8Of c (st0_0 t) (st0_2 t) (wC W c t)
/-- and the column sums' block, over what it held before: only three of its eight rows are stored. -/
def colOut (c : Dev nD) (t : Fin cfg0.N) (Y : S1x8x512.Idx → Elt F .f32) : S1x8x512.Idx → Elt F .f32 :=
  colOf c (st0_0 t) (st0_1 t) (st0_3 t) (wC W c t) (sC W c t) ((hstage0_3 ((cfg0.slots t 3).cast nbuf0_3)).unread Y)

/-- What the weight preparation leaves in each window at a point, given what it found. -/
def rel0 (c : Dev nD) : (w : Fin cfg0.W) → Fin cfg0.N → (Y X : (cfg0.win w).block.Idx → Elt F (cfg0.win w).elt) → Prop
  | ⟨0, _⟩ => fun _ Y X => X = Y
  | ⟨1, _⟩ => fun _ Y X => X = Y
  | ⟨2, _⟩ => fun t _ X => X = w8Out W c t
  | ⟨3, _⟩ => fun t Y X => X = colOut W c t Y
  | ⟨_ + 4, h⟩ => absurd h (Nat.not_lt.2 (Nat.le_add_left _ _))

/-- The proof data of the weight preparation, entered from the valuation `W`. -/
def rd0 (c : Dev nD) : RDat τ (Elt F) Unit ℕ UU ℕ cfg0 c where
  A w := W (Proc.devRef .tc (Pipeline.arrRef spec0 w))
  after := rel0 W c
  Φ _ := Pipeline.scopedRest (Ix := Unit) (Name := ℕ) (U := UU) (Lvl := ℕ) (Val := Elt F) spec0 c
  q _ := fullShare
  owed _ := 0

/-- The packed weights' window holds its block when the body runs, -/
theorem finds0_0 (c : Dev nD) (t : Fin cfg0.N) (Y) (h : (rd0 W c).Finds 0 t Y) : Y = wBlk W t := by
  obtain ⟨d, rfl⟩ := (rd0 W c).finds_in_eq_fetched 0 rfl (fun _ _ _ => rfl) (fun _ _ _ h => h) t Y h
  rfl
/-- and the scales' window too. -/
theorem finds0_1 (c : Dev nD) (t : Fin cfg0.N) (Y) (h : (rd0 W c).Finds 1 t Y) : Y = sBlk W t := by
  obtain ⟨d, rfl⟩ := (rd0 W c).finds_in_eq_fetched 1 rfl (fun _ _ _ => rfl) (fun _ _ _ h => h) t Y h
  rfl

set_option backward.isDefEq.respectTransparency.types false in
/-- The weight preparation meets its proof data at every grid point. -/
theorem body0 (c : Dev nD) : (rd0 W c).BodyObligation (defs₀ (F := F)) Variants.none () Set.univ := fun t Y hY => by
  have e0 := finds0_0 W c t (Y 0) (hY 0)
  have e1 := finds0_1 W c t (Y 1) (hY 1)
  rw [bigSep_W0, bigSep_W0]
  rw [show (rd0 W c).Φ t.castSucc = (rd0 W c).Φ t.succ from rfl,
    show (rd0 W c).owesAt () t.castSucc = (rd0 W c).owesAt () t.succ from rfl]
  rw [e0, e1]
  iintro ⟨HΦ, HO, H0, H1, H2, H3⟩
  iapply (prep_owns (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (wBlk W t) (sBlk W t) (Y 2) (Y 3))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists (wBlk W t); isplitr; · ipureintro; exact rfl
    iexact H0
  isplitl [H1]
  · iexists (sBlk W t); isplitr; · ipureintro; exact rfl
    iexact H1
  isplitl [H2]
  · iexists (w8Out W c t); isplitr; · ipureintro; exact rfl
    iexact H2
  · iexists (colOut W c t (Y 3)); isplitr; · ipureintro; exact rfl
    iexact H3

end Cert.Proof.KernelIdeal

end
-- ==== Proof.KernelIdeal.Body1.lean ====
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic
public import proofs.«01_k».proof.Proof.KernelIdeal.BodyA
public import proofs.«01_k».proof.Proof.KernelIdeal.BodyB
public import proofs.«01_k».proof.Proof.KernelIdeal.Data0

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

/-- The rows of the scale and zero-point arrays that a grid point stores lie inside them. -/
theorem offInb (i : grid1.Coords) : ∀ d, (k1_off2 i) d + S1x256.size d ≤ S12x1536.size d := by
  revert i; decide +kernel

/-- The strip of the scales that a point stores, -/
abbrev scaleStrip (c : Dev nD) (i : grid1.Coords) (M0 : Memref sig .tc .vmem S256x3584 .bf16) (f0 : Bf (F := F) c M0) :
    List (View.Piece (Elt F) S12x1536 EltTy.f32) :=
  [⟨Rect.unit (k1_off2 i) S1x256.size (offInb i), k1_pay110 (stepRun.sl.r_13 c M0 f0)⟩]
/-- and of the zero points. -/
abbrev zeroStrip (c : Dev nD) (i : grid1.Coords) (M0 : Memref sig .tc .vmem S256x3584 .bf16) (f0 : Bf (F := F) c M0) :
    List (View.Piece (Elt F) S12x1536 EltTy.f32) :=
  [⟨Rect.unit (k1_off2 i) S1x256.size (offInb i), k1_pay111 (stepRun.sl.r_14 c M0 f0)⟩]

/-- What a point leaves in the codes' block, -/
def codesOf (c : Dev nD) (M0 : Memref sig .tc .vmem S256x3584 .bf16) (M5 : Memref sig .tc .vmem S256x3328 .i8) (f0 : Bf (F := F) c M0) :
    S256x3328.Idx → Elt F .i8 :=
  M5.view.read (Elt F) (M5.view.writes (Elt F) M5.view.junk (stepRun.sl.H5_13 c M0 f0))
/-- in the scales, over what they held, -/
def scaleOf (c : Dev nD) (i : grid1.Coords) (M0 : Memref sig .tc .vmem S256x3584 .bf16) (M6 : Memref sig .tc .vmem S12x1536 .f32)
    (f0 : Bf (F := F) c M0) (f6 : Bf (F := F) c M6) : S12x1536.Idx → Elt F .f32 :=
  M6.view.read (Elt F) (M6.view.writes (Elt F) f6 (scaleStrip c i M0 f0))
/-- and in the zero points. -/
def zeroOf (c : Dev nD) (i : grid1.Coords) (M0 : Memref sig .tc .vmem S256x3584 .bf16) (M7 : Memref sig .tc .vmem S12x1536 .f32)
    (f0 : Bf (F := F) c M0) (f7 : Bf (F := F) c M7) : S12x1536.Idx → Elt F .f32 :=
  M7.view.read (Elt F) (M7.view.writes (Elt F) f7 (zeroStrip c i M0 f0))

/-- What a point leaves of its rows for the next one: the codes less eight, -/
def qOf (c : Dev nD) (M0 : Memref sig .tc .vmem S256x3584 .bf16) (M8 : Memref sig .tc .vmem S256x3328 .fp8e4m3) (f0 : Bf (F := F) c M0) : Bf (F := F) c M8 :=
  M8.view.writes (Elt F) M8.view.junk (stepRun.sl.H8_13 c M0 f0)
/-- the outlier columns, -/
def oOf (c : Dev nD) (M0 : Memref sig .tc .vmem S256x3584 .bf16) (M9 : Memref sig .tc .vmem S256x256 .bf16) (f0 : Bf (F := F) c M0) : Bf (F := F) c M9 :=
  M9.view.writes (Elt F) M9.view.junk (stepRun.sl.H9_1 c M0 f0)
/-- the scales -/
def sOf (c : Dev nD) (M0 : Memref sig .tc .vmem S256x3584 .bf16) (M10 : Memref sig .tc .vmem S256x128 .f32) (f0 : Bf (F := F) c M0) : Bf (F := F) c M10 :=
  M10.view.writes (Elt F) M10.view.junk (stepRun.sl.H10_1 c M0 f0)
/-- and the zero points. -/
def zOf (c : Dev nD) (M0 : Memref sig .tc .vmem S256x3584 .bf16) (M11 : Memref sig .tc .vmem S256x128 .f32) (f0 : Bf (F := F) c M0) : Bf (F := F) c M11 :=
  M11.view.writes (Elt F) M11.view.junk (stepRun.sl.H11_1 c M0 f0)

/-- What a later point leaves in the product's block. -/
def yOf (c : Dev nD) (M1 : Memref sig .tc .vmem S19x3328x512 .fp8e4m3) (M2 : Memref sig .tc .vmem S19x8x512 .f32) (M3 : Memref sig .tc .vmem S256x9728 .bf16) (M4 : Memref sig .tc .vmem S256x9728 .bf16) (M8 : Memref sig .tc .vmem S256x3328 .fp8e4m3) (M9 : Memref sig .tc .vmem S256x256 .bf16) (M10 : Memref sig .tc .vmem S256x128 .f32) (M11 : Memref sig .tc .vmem S256x128 .f32) (M12 : Memref sig .tc .vmem S256x3328 .fp8e4m3) (M13 : Memref sig .tc .vmem S256x256 .bf16) (M14 : Memref sig .tc .vmem S256x128 .f32) (M15 : Memref sig .tc .vmem S256x128 .f32)
    (f1 : Bf (F := F) c M1) (f2 : Bf (F := F) c M2) (f3 : Bf (F := F) c M3) (f8 : Bf (F := F) c M8) (f9 : Bf (F := F) c M9) (f10 : Bf (F := F) c M10) (f11 : Bf (F := F) c M11) :
    S256x9728.Idx → Elt F .bf16 :=
  M4.view.read (Elt F) (M4.view.writes (Elt F) M4.view.junk (stepRun.sl.H4_19 c M1 M2 M3 M8 M9 M10 M11 M12 M13 M14 M15 f1 f2 f3 f8 f9 f10 f11))

set_option maxHeartbeats 1000000 in
/-- The contents that the first grid point leaves. -/
theorem firstRun_val (c : Dev nD) (i : grid1.Coords) (hc1 : k1_cond1 i = 1#1) (hc2 : ¬ k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (f0 : Bf (F := F) c M0) (f1 : Bf (F := F) c M1) (f2 : Bf (F := F) c M2) (f3 : Bf (F := F) c M3) (f4 : Bf (F := F) c M4) (f6 : Bf (F := F) c M6) (f7 : Bf (F := F) c M7) (f12 : Bf (F := F) c M12) (f13 : Bf (F := F) c M13) (f14 : Bf (F := F) c M14) (f15 : Bf (F := F) c M15) :
    (firstRun (F := F) c i hc1 hc2 M0 h0 M1 h1 M2 h2 M3 h3 M4 h4 M5 h5 M6 h6 M7 h7 M8 h8 M9 h9 M10 h10 M11 h11 M12 h12 M13 h13 M14 h14 M15 h15 f0 f1 f2 f3 f4 f6 f7 f12 f13 f14 f15).1
      = (M5.view.writes (Elt F) M5.view.junk (stepRun.sl.H5_13 c M0 f0),
        M6.view.writes (Elt F) f6 (scaleStrip c i M0 f0),
        M7.view.writes (Elt F) f7 (zeroStrip c i M0 f0),
        qOf c M0 M8 f0,
        oOf c M0 M9 f0,
        sOf c M0 M10 f0,
        zOf c M0 M11 f0) := rfl

set_option maxHeartbeats 1000000 in
/-- The first grid point, over memrefs owned at what they read and scratch buffers held at contents. -/
theorem first_owns (c : Dev nD) (i : grid1.Coords) (hc1 : k1_cond1 i = 1#1) (hc2 : ¬ k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (X0 : S256x3584.Idx → Elt F .bf16) (X1 : S19x3328x512.Idx → Elt F .fp8e4m3) (X2 : S19x8x512.Idx → Elt F .f32) (X3 : S256x9728.Idx → Elt F .bf16) (Y4 : S256x9728.Idx → Elt F .bf16) (Y5 : S256x3328.Idx → Elt F .i8) (Y6 : S12x1536.Idx → Elt F .f32) (Y7 : S12x1536.Idx → Elt F .f32)
    (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare Y4 ∗ owns (c : Thread nD τ) M5 fullShare Y5 ∗ owns (c : Thread nD τ) M6 fullShare Y6 ∗ owns (c : Thread nD τ) M7 fullShare Y7 ∗ pt c M8 f8 ∗ pt c M9 f9 ∗ pt c M10 f10 ∗ pt c M11 f11 ∗ pt c M12 f12 ∗ pt c M13 f13 ∗ pt c M14 f14 ∗ pt c M15 f15
      ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare Y4 ∗ owns (c : Thread nD τ) M5 fullShare (codesOf c M0 M5 (h0.unread X0)) ∗ owns (c : Thread nD τ) M6 fullShare (scaleOf c i M0 M6 (h0.unread X0) (h6.unread Y6)) ∗ owns (c : Thread nD τ) M7 fullShare (zeroOf c i M0 M7 (h0.unread X0) (h7.unread Y7)) ∗ pt c M8 (qOf c M0 M8 (h0.unread X0)) ∗ pt c M9 (oOf c M0 M9 (h0.unread X0)) ∗ pt c M10 (sOf c M0 M10 (h0.unread X0)) ∗ pt c M11 (zOf c M0 M11 (h0.unread X0)) ∗ pt c M12 f12 ∗ pt c M13 f13 ∗ pt c M14 f14 ∗ pt c M15 f15) -∗ Q ⟨⟩))
    ⊢ wp frame (wpE (defs₀ (F := F)) Variants.none c none) Set.univ (cc1_quant_matmul i M0 h0 M1 h1 M2 h2 M3 h3 M4 h4 M5 h5 M6 h6 M7 h7 M8 h8 M9 h9 M10 h10 M11 h11 M12 h12 M13 h13 M14 h14 M15 h15) Q := by
  have hrun := (firstRun (F := F) c i hc1 hc2 M0 h0 M1 h1 M2 h2 M3 h3 M4 h4 M5 h5 M6 h6 M7 h7 M8 h8 M9 h9 M10 h10 M11 h11 M12 h12 M13 h13 M14 h14 M15 h15 (h0.unread X0) (h1.unread X1) (h2.unread X2) (h3.unread X3) (h4.unread Y4) (h6.unread Y6) (h7.unread Y7) f12 f13 f14 f15).2 (h5.unread Y5) f8 f9 f10 f11 Set.univ Q
  rw [firstRun_val] at hrun
  iintro ⟨H0, H1, H2, H3, H4, H5, H6, H7, H8, H9, H10, H11, H12, H13, H14, H15, Hk⟩
  ihave H0 := (owns_pt c M0 h0 X0) $$ H0
  ihave H1 := (owns_pt c M1 h1 X1) $$ H1
  ihave H2 := (owns_pt c M2 h2 X2) $$ H2
  ihave H3 := (owns_pt c M3 h3 X3) $$ H3
  ihave H4 := (owns_pt c M4 h4 Y4) $$ H4
  ihave H5 := (owns_pt c M5 h5 Y5) $$ H5
  ihave H6 := (owns_pt c M6 h6 Y6) $$ H6
  ihave H7 := (owns_pt c M7 h7 Y7) $$ H7
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]; · iapply (pt_owns c M0 h0 _ _ (h0.read_unread X0)); iexact H0
  isplitl [H1]; · iapply (pt_owns c M1 h1 _ _ (h1.read_unread X1)); iexact H1
  isplitl [H2]; · iapply (pt_owns c M2 h2 _ _ (h2.read_unread X2)); iexact H2
  isplitl [H3]; · iapply (pt_owns c M3 h3 _ _ (h3.read_unread X3)); iexact H3
  isplitl [H4]; · iapply (pt_owns c M4 h4 _ _ (h4.read_unread Y4)); iexact H4
  isplitl [H5]; · iapply (pt_owns c M5 h5 _ _ rfl); iexact H5
  isplitl [H6]; · iapply (pt_owns c M6 h6 _ _ rfl); iexact H6
  isplitl [H7]; · iapply (pt_owns c M7 h7 _ _ rfl); iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 1000000 in
/-- The contents that a later grid point leaves. -/
theorem stepRun_val (c : Dev nD) (i : grid1.Coords) (hc1 : ¬ k1_cond1 i = 1#1) (hc2 : k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (f0 : Bf (F := F) c M0) (f1 : Bf (F := F) c M1) (f2 : Bf (F := F) c M2) (f3 : Bf (F := F) c M3) (f6 : Bf (F := F) c M6) (f7 : Bf (F := F) c M7) (f8 : Bf (F := F) c M8) (f9 : Bf (F := F) c M9) (f10 : Bf (F := F) c M10) (f11 : Bf (F := F) c M11) :
    (stepRun (F := F) c i hc1 hc2 M0 h0 M1 h1 M2 h2 M3 h3 M4 h4 M5 h5 M6 h6 M7 h7 M8 h8 M9 h9 M10 h10 M11 h11 M12 h12 M13 h13 M14 h14 M15 h15 f0 f1 f2 f3 f6 f7 f8 f9 f10 f11).1
      = (M4.view.writes (Elt F) M4.view.junk (stepRun.sl.H4_19 c M1 M2 M3 M8 M9 M10 M11 M12 M13 M14 M15 f1 f2 f3 f8 f9 f10 f11),
        M5.view.writes (Elt F) M5.view.junk (stepRun.sl.H5_13 c M0 f0),
        M6.view.writes (Elt F) f6 (scaleStrip c i M0 f0),
        M7.view.writes (Elt F) f7 (zeroStrip c i M0 f0),
        qOf c M0 M8 f0,
        oOf c M0 M9 f0,
        sOf c M0 M10 f0,
        zOf c M0 M11 f0,
        M12.view.writes (Elt F) M12.view.junk (stepRun.sl.H12_1 c M8 f8),
        M13.view.writes (Elt F) M13.view.junk (stepRun.sl.H13_1 c M9 f9),
        M14.view.writes (Elt F) M14.view.junk (stepRun.sl.H14_1 c M10 f10),
        M15.view.writes (Elt F) M15.view.junk (stepRun.sl.H15_1 c M11 f11)) := rfl

set_option maxHeartbeats 1000000 in
/-- A later grid point, over memrefs owned at what they read and scratch buffers held at contents. -/
theorem step_owns (c : Dev nD) (i : grid1.Coords) (hc1 : ¬ k1_cond1 i = 1#1) (hc2 : k1_cond2 i = 1#1) (M0 : Memref sig .tc .vmem S256x3584 .bf16) (h0 : M0.IsWhole) (M1 : Memref sig .tc .vmem S19x3328x512 .fp8e4m3) (h1 : M1.IsWhole) (M2 : Memref sig .tc .vmem S19x8x512 .f32) (h2 : M2.IsWhole) (M3 : Memref sig .tc .vmem S256x9728 .bf16) (h3 : M3.IsWhole) (M4 : Memref sig .tc .vmem S256x9728 .bf16) (h4 : M4.IsWhole) (M5 : Memref sig .tc .vmem S256x3328 .i8) (h5 : M5.IsWhole) (M6 : Memref sig .tc .vmem S12x1536 .f32) (h6 : M6.IsWhole) (M7 : Memref sig .tc .vmem S12x1536 .f32) (h7 : M7.IsWhole) (M8 : Memref sig .tc .vmem S256x3328 .fp8e4m3) (h8 : M8.IsWhole) (M9 : Memref sig .tc .vmem S256x256 .bf16) (h9 : M9.IsWhole) (M10 : Memref sig .tc .vmem S256x128 .f32) (h10 : M10.IsWhole) (M11 : Memref sig .tc .vmem S256x128 .f32) (h11 : M11.IsWhole) (M12 : Memref sig .tc .vmem S256x3328 .fp8e4m3) (h12 : M12.IsWhole) (M13 : Memref sig .tc .vmem S256x256 .bf16) (h13 : M13.IsWhole) (M14 : Memref sig .tc .vmem S256x128 .f32) (h14 : M14.IsWhole) (M15 : Memref sig .tc .vmem S256x128 .f32) (h15 : M15.IsWhole)
    (X0 : S256x3584.Idx → Elt F .bf16) (X1 : S19x3328x512.Idx → Elt F .fp8e4m3) (X2 : S19x8x512.Idx → Elt F .f32) (X3 : S256x9728.Idx → Elt F .bf16) (Y4 : S256x9728.Idx → Elt F .bf16) (Y5 : S256x3328.Idx → Elt F .i8) (Y6 : S12x1536.Idx → Elt F .f32) (Y7 : S12x1536.Idx → Elt F .f32)
    (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare Y4 ∗ owns (c : Thread nD τ) M5 fullShare Y5 ∗ owns (c : Thread nD τ) M6 fullShare Y6 ∗ owns (c : Thread nD τ) M7 fullShare Y7 ∗ pt c M8 f8 ∗ pt c M9 f9 ∗ pt c M10 f10 ∗ pt c M11 f11 ∗ pt c M12 f12 ∗ pt c M13 f13 ∗ pt c M14 f14 ∗ pt c M15 f15
      ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare (yOf c M1 M2 M3 M4 M8 M9 M10 M11 M12 M13 M14 M15 (h1.unread X1) (h2.unread X2) (h3.unread X3) f8 f9 f10 f11) ∗ owns (c : Thread nD τ) M5 fullShare (codesOf c M0 M5 (h0.unread X0)) ∗ owns (c : Thread nD τ) M6 fullShare (scaleOf c i M0 M6 (h0.unread X0) (h6.unread Y6)) ∗ owns (c : Thread nD τ) M7 fullShare (zeroOf c i M0 M7 (h0.unread X0) (h7.unread Y7)) ∗ pt c M8 (qOf c M0 M8 (h0.unread X0)) ∗ pt c M9 (oOf c M0 M9 (h0.unread X0)) ∗ pt c M10 (sOf c M0 M10 (h0.unread X0)) ∗ pt c M11 (zOf c M0 M11 (h0.unread X0)) ∗ (∃ g : Bf (F := F) c M12, pt c M12 g) ∗ (∃ g : Bf (F := F) c M13, pt c M13 g) ∗ (∃ g : Bf (F := F) c M14, pt c M14 g) ∗ (∃ g : Bf (F := F) c M15, pt c M15 g)) -∗ Q ⟨⟩))
    ⊢ wp frame (wpE (defs₀ (F := F)) Variants.none c none) Set.univ (cc1_quant_matmul i M0 h0 M1 h1 M2 h2 M3 h3 M4 h4 M5 h5 M6 h6 M7 h7 M8 h8 M9 h9 M10 h10 M11 h11 M12 h12 M13 h13 M14 h14 M15 h15) Q := by
  have hrun := (stepRun (F := F) c i hc1 hc2 M0 h0 M1 h1 M2 h2 M3 h3 M4 h4 M5 h5 M6 h6 M7 h7 M8 h8 M9 h9 M10 h10 M11 h11 M12 h12 M13 h13 M14 h14 M15 h15 (h0.unread X0) (h1.unread X1) (h2.unread X2) (h3.unread X3) (h6.unread Y6) (h7.unread Y7) f8 f9 f10 f11).2 (h4.unread Y4) (h5.unread Y5) f12 f13 f14 f15 Set.univ Q
  rw [stepRun_val] at hrun
  iintro ⟨H0, H1, H2, H3, H4, H5, H6, H7, H8, H9, H10, H11, H12, H13, H14, H15, Hk⟩
  ihave H0 := (owns_pt c M0 h0 X0) $$ H0
  ihave H1 := (owns_pt c M1 h1 X1) $$ H1
  ihave H2 := (owns_pt c M2 h2 X2) $$ H2
  ihave H3 := (owns_pt c M3 h3 X3) $$ H3
  ihave H4 := (owns_pt c M4 h4 Y4) $$ H4
  ihave H5 := (owns_pt c M5 h5 Y5) $$ H5
  ihave H6 := (owns_pt c M6 h6 Y6) $$ H6
  ihave H7 := (owns_pt c M7 h7 Y7) $$ H7
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]; · iapply (pt_owns c M0 h0 _ _ (h0.read_unread X0)); iexact H0
  isplitl [H1]; · iapply (pt_owns c M1 h1 _ _ (h1.read_unread X1)); iexact H1
  isplitl [H2]; · iapply (pt_owns c M2 h2 _ _ (h2.read_unread X2)); iexact H2
  isplitl [H3]; · iapply (pt_owns c M3 h3 _ _ (h3.read_unread X3)); iexact H3
  isplitl [H4]; · iapply (pt_owns c M4 h4 _ _ rfl); iexact H4
  isplitl [H5]; · iapply (pt_owns c M5 h5 _ _ rfl); iexact H5
  isplitl [H6]; · iapply (pt_owns c M6 h6 _ _ rfl); iexact H6
  isplitl [H7]; · iapply (pt_owns c M7 h7 _ _ rfl); iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iexists _; iexact H15

end Cert.Proof.KernelIdeal

end
-- ==== Proof.KernelIdeal.Data1.lean ====
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic
public import proofs.«01_k».proof.Proof.KernelIdeal.Body1

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (W : Valuation τ sig (Elt F))
/-- The block of the activations at a grid point, -/
abbrev xBlk (t : Fin cfg1.N) : S256x3584.Idx → Elt F .bf16 :=
  ((cfg1.win 0).blk t).view.read (Elt F) (W (Proc.devRef .tc (Pipeline.arrRef spec1 0)))
/-- and the contents of its staging memref that read so. -/
abbrev xC (c : Dev nD) (t : Fin cfg1.N) : Bf (F := F) c (st1_0 t) := (hstage1_0 ((cfg1.slots t 0).cast nbuf1_0)).unread (xBlk W t)
/-- The block of the decoded weights at a grid point, -/
abbrev w8Blk (t : Fin cfg1.N) : S19x3328x512.Idx → Elt F .fp8e4m3 :=
  ((cfg1.win 1).blk t).view.read (Elt F) (W (Proc.devRef .tc (Pipeline.arrRef spec1 1)))
/-- and the contents of its staging memref that read so. -/
abbrev w8C (c : Dev nD) (t : Fin cfg1.N) : Bf (F := F) c (st1_1 t) := (hstage1_1 ((cfg1.slots t 1).cast nbuf1_1)).unread (w8Blk W t)
/-- The block of the column sums at a grid point, -/
abbrev colBlk (t : Fin cfg1.N) : S19x8x512.Idx → Elt F .f32 :=
  ((cfg1.win 2).blk t).view.read (Elt F) (W (Proc.devRef .tc (Pipeline.arrRef spec1 2)))
/-- and the contents of its staging memref that read so. -/
abbrev colC (c : Dev nD) (t : Fin cfg1.N) : Bf (F := F) c (st1_2 t) := (hstage1_2 ((cfg1.slots t 2).cast nbuf1_2)).unread (colBlk W t)
/-- The block of the outlier weights at a grid point, -/
abbrev woBlk (t : Fin cfg1.N) : S256x9728.Idx → Elt F .bf16 :=
  ((cfg1.win 3).blk t).view.read (Elt F) (W (Proc.devRef .tc (Pipeline.arrRef spec1 3)))
/-- and the contents of its staging memref that read so. -/
abbrev woC (c : Dev nD) (t : Fin cfg1.N) : Bf (F := F) c (st1_3 t) := (hstage1_3 ((cfg1.slots t 3).cast nbuf1_3)).unread (woBlk W t)

/-- What the product's block holds after the point `t`, the rows of the point `s` being kept. -/
def yOut (c : Dev nD) (s t : Fin cfg1.N) : S256x9728.Idx → Elt F .bf16 :=
  yOf c (st1_1 t) (st1_2 t) (st1_3 t) (st1_4 t) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7)
    (w8C W c t) (colC W c t) (woC W c t) (qOf c (st1_0 s) (Memref.whole cc1_scratch0) (xC W c s)) (oOf c (st1_0 s) (Memref.whole cc1_scratch1) (xC W c s))
    (sOf c (st1_0 s) (Memref.whole cc1_scratch2) (xC W c s)) (zOf c (st1_0 s) (Memref.whole cc1_scratch3) (xC W c s))
/-- What the codes' block holds after the point, -/
def codesOut (c : Dev nD) (t : Fin cfg1.N) : S256x3328.Idx → Elt F .i8 := codesOf c (st1_0 t) (st1_5 t) (xC W c t)
/-- the scales, over what they held, -/
def scaleOut (c : Dev nD) (t : Fin cfg1.N) (Y : S12x1536.Idx → Elt F .f32) : S12x1536.Idx → Elt F .f32 :=
  scaleOf c (grid1.coords t) (st1_0 t) (st1_6 t) (xC W c t) ((hstage1_6 ((cfg1.slots t 6).cast nbuf1_6)).unread Y)
/-- and the zero points. -/
def zeroOut (c : Dev nD) (t : Fin cfg1.N) (Y : S12x1536.Idx → Elt F .f32) : S12x1536.Idx → Elt F .f32 :=
  zeroOf c (grid1.coords t) (st1_0 t) (st1_7 t) (xC W c t) ((hstage1_7 ((cfg1.slots t 7).cast nbuf1_7)).unread Y)

/-- What the main kernel leaves in each window at a point, given what it found: the first point leaves the product's
    block as it is, each later one stores the product of the rows before. -/
def rel1 (c : Dev nD) : (w : Fin cfg1.W) → Fin cfg1.N → (Y X : (cfg1.win w).block.Idx → Elt F (cfg1.win w).elt) → Prop
  | ⟨0, _⟩ => fun _ Y X => X = Y
  | ⟨1, _⟩ => fun _ Y X => X = Y
  | ⟨2, _⟩ => fun _ Y X => X = Y
  | ⟨3, _⟩ => fun _ Y X => X = Y
  | ⟨4, _⟩ => fun t _ X => ∀ s : Fin cfg1.N, s.val + 1 = t.val → X = yOut W c s t
  | ⟨5, _⟩ => fun t _ X => X = codesOut W c t
  | ⟨6, _⟩ => fun t Y X => X = scaleOut W c t Y
  | ⟨7, _⟩ => fun t Y X => X = zeroOut W c t Y
  | ⟨_ + 8, h⟩ => absurd h (Nat.not_lt.2 (Nat.le_add_left _ _))

/-- The scratch buffers before the point `k`: the rows of the point before are kept in the first four. -/
def kept (c : Dev nD) (k : ℕ) : sProp 𝕄 :=
  iprop((∃ f : Bf (F := F) c (Memref.whole cc1_scratch0), ⌜∀ s : Fin cfg1.N, s.val + 1 = k → f = qOf c (st1_0 s) (Memref.whole cc1_scratch0) (xC W c s)⌝ ∗ pt c (Memref.whole cc1_scratch0) f) ∗ (∃ f : Bf (F := F) c (Memref.whole cc1_scratch1), ⌜∀ s : Fin cfg1.N, s.val + 1 = k → f = oOf c (st1_0 s) (Memref.whole cc1_scratch1) (xC W c s)⌝ ∗ pt c (Memref.whole cc1_scratch1) f) ∗ (∃ f : Bf (F := F) c (Memref.whole cc1_scratch2), ⌜∀ s : Fin cfg1.N, s.val + 1 = k → f = sOf c (st1_0 s) (Memref.whole cc1_scratch2) (xC W c s)⌝ ∗ pt c (Memref.whole cc1_scratch2) f) ∗ (∃ f : Bf (F := F) c (Memref.whole cc1_scratch3), ⌜∀ s : Fin cfg1.N, s.val + 1 = k → f = zOf c (st1_0 s) (Memref.whole cc1_scratch3) (xC W c s)⌝ ∗ pt c (Memref.whole cc1_scratch3) f) ∗ (∃ f : Bf (F := F) c (Memref.whole cc1_scratch4), pt c (Memref.whole cc1_scratch4) f) ∗ (∃ f : Bf (F := F) c (Memref.whole cc1_scratch5), pt c (Memref.whole cc1_scratch5) f) ∗ (∃ f : Bf (F := F) c (Memref.whole cc1_scratch6), pt c (Memref.whole cc1_scratch6) f) ∗ (∃ f : Bf (F := F) c (Memref.whole cc1_scratch7), pt c (Memref.whole cc1_scratch7) f))

/-- The staging buffers of the weight preparation, which the main kernel does not touch. -/
def idle (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The proof data of the main kernel, entered from the valuation `W`. -/
def rd1 (c : Dev nD) : RDat τ (Elt F) Unit ℕ UU ℕ cfg1 c where
  A w := W (Proc.devRef .tc (Pipeline.arrRef spec1 w))
  after := rel1 W c
  Φ k := iprop(idle c ∗ kept W c k.val)
  q _ := fullShare
  owed _ := 0

/-- The scoped buffers that are no staging buffer of the main kernel are what its first point needs, -/
theorem rest_kept (c : Dev nD) :
    (Pipeline.scopedRest (Ix := Unit) (Name := ℕ) (U := UU) (Lvl := ℕ) (Val := Elt F) spec1 c : sProp 𝕄) ⊢ (rd1 W c).Φ 0 := by
  rw [scopedRest1_eq]
  unfold rd1 idle kept
  dsimp only
  iintro ⟨I0, I1, I2, I3, I4, I5, I6, I7, ⟨%f8, H8⟩, ⟨%f9, H9⟩, ⟨%f10, H10⟩, ⟨%f11, H11⟩, ⟨%f12, H12⟩, ⟨%f13, H13⟩, ⟨%f14, H14⟩, ⟨%f15, H15⟩⟩
  isplitl [I0 I1 I2 I3 I4 I5 I6 I7]
  · isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  isplitl [H8]; · iexists f8; isplitr; (· ipureintro; exact fun s hs => absurd hs (Nat.succ_ne_zero _)); iexact H8
  isplitl [H9]; · iexists f9; isplitr; (· ipureintro; exact fun s hs => absurd hs (Nat.succ_ne_zero _)); iexact H9
  isplitl [H10]; · iexists f10; isplitr; (· ipureintro; exact fun s hs => absurd hs (Nat.succ_ne_zero _)); iexact H10
  isplitl [H11]; · iexists f11; isplitr; (· ipureintro; exact fun s hs => absurd hs (Nat.succ_ne_zero _)); iexact H11
  isplitl [H12]; · iexists f12; iexact H12
  isplitl [H13]; · iexists f13; iexact H13
  isplitl [H14]; · iexists f14; iexact H14
  iexists f15; iexact H15

/-- and it gives them back at the end. -/
theorem kept_rest (c : Dev nD) :
    (rd1 W c).Φ (Fin.last _) ⊢ (Pipeline.scopedRest (Ix := Unit) (Name := ℕ) (U := UU) (Lvl := ℕ) (Val := Elt F) spec1 c : sProp 𝕄) := by
  rw [scopedRest1_eq]
  unfold rd1 idle kept
  dsimp only
  iintro ⟨⟨I0, I1, I2, I3, I4, I5, I6, I7⟩, ⟨%f8, %e8, H8⟩, ⟨%f9, %e9, H9⟩, ⟨%f10, %e10, H10⟩, ⟨%f11, %e11, H11⟩, ⟨%f12, H12⟩, ⟨%f13, H13⟩, ⟨%f14, H14⟩, ⟨%f15, H15⟩⟩
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [H8]; · iexists f8; iexact H8
  isplitl [H9]; · iexists f9; iexact H9
  isplitl [H10]; · iexists f10; iexact H10
  isplitl [H11]; · iexists f11; iexact H11
  isplitl [H12]; · iexists f12; iexact H12
  isplitl [H13]; · iexists f13; iexact H13
  isplitl [H14]; · iexists f14; iexact H14
  iexists f15; iexact H15

/-- The first branch is the first grid point's, -/
theorem cond1_iff : ∀ t : Fin cfg1.N, k1_cond1 (grid1.coords t) = 1#1 ↔ t.val = 0 :=
  (by decide +kernel : ∀ t : Fin grid1.N, k1_cond1 (grid1.coords t) = 1#1 ↔ t.val = 0)
/-- the second every later one's. -/
theorem cond2_iff : ∀ t : Fin cfg1.N, k1_cond2 (grid1.coords t) = 1#1 ↔ t.val ≠ 0 :=
  (by decide +kernel : ∀ t : Fin grid1.N, k1_cond2 (grid1.coords t) = 1#1 ↔ t.val ≠ 0)

/-- The window of the activations holds its block when the body runs. -/
theorem finds1_0 (c : Dev nD) (t : Fin cfg1.N) (Y) (h : (rd1 W c).Finds 0 t Y) : Y = xBlk W t := by
  obtain ⟨d, rfl⟩ := (rd1 W c).finds_in_eq_fetched 0 rfl (fun _ _ _ => rfl) (fun _ _ _ h => h) t Y h
  rfl
/-- The window of the decoded weights holds its block when the body runs. -/
theorem finds1_1 (c : Dev nD) (t : Fin cfg1.N) (Y) (h : (rd1 W c).Finds 1 t Y) : Y = w8Blk W t := by
  obtain ⟨d, rfl⟩ := (rd1 W c).finds_in_eq_fetched 1 rfl (fun _ _ _ => rfl) (fun _ _ _ h => h) t Y h
  rfl
/-- The window of the column sums holds its block when the body runs. -/
theorem finds1_2 (c : Dev nD) (t : Fin cfg1.N) (Y) (h : (rd1 W c).Finds 2 t Y) : Y = colBlk W t := by
  obtain ⟨d, rfl⟩ := (rd1 W c).finds_in_eq_fetched 2 rfl (fun _ _ _ => rfl) (fun _ _ _ h => h) t Y h
  rfl
/-- The window of the outlier weights holds its block when the body runs. -/
theorem finds1_3 (c : Dev nD) (t : Fin cfg1.N) (Y) (h : (rd1 W c).Finds 3 t Y) : Y = woBlk W t := by
  obtain ⟨d, rfl⟩ := (rd1 W c).finds_in_eq_fetched 3 rfl (fun _ _ _ => rfl) (fun _ _ _ h => h) t Y h
  rfl

set_option backward.isDefEq.respectTransparency.types false in
set_option maxHeartbeats 1000000 in
/-- The main kernel meets its proof data at the first grid point. -/
theorem body1_first (c : Dev nD) (t : Fin cfg1.N) (h0 : t.val = 0) (Y : (w : Fin cfg1.W) → (cfg1.win w).block.Idx → Elt F (cfg1.win w).elt)
    (hY : ∀ w, (rd1 W c).Finds w t (Y w)) :
    iprop((rd1 W c).Φ t.castSucc ∗ (rd1 W c).owesAt () t.castSucc
        ∗ bigSep (Finset.univ : Finset (Fin cfg1.W)) fun w => (owns (c : Thread nD τ) ((cfg1.win w).stage (cfg1.slots t w)) fullShare (Y w) : sProp 𝕄))
      ⊢ wp frame (wpE (defs₀ (F := F)) Variants.none c none) Set.univ (defs₀ (F := F) .tc cfg1.body (cfg1.bodyArgs t (cfg1.slots t))) fun _ =>
        iprop((rd1 W c).Φ t.succ ∗ (rd1 W c).owesAt () t.succ
          ∗ bigSep (Finset.univ : Finset (Fin cfg1.W)) fun w => iprop(∃ X, ⌜(rd1 W c).after w t (Y w) X⌝ ∗ owns (c : Thread nD τ) ((cfg1.win w).stage (cfg1.slots t w)) fullShare X)) := by
  have hc1 : k1_cond1 (grid1.coords t) = 1#1 := (cond1_iff t).2 h0
  have hc2 : ¬ k1_cond2 (grid1.coords t) = 1#1 := fun h => (cond2_iff t).1 h h0
  have e0 := finds1_0 W c t (Y 0) (hY 0)
  have e1 := finds1_1 W c t (Y 1) (hY 1)
  have e2 := finds1_2 W c t (Y 2) (hY 2)
  have e3 := finds1_3 W c t (Y 3) (hY 3)
  rw [bigSep_W1, bigSep_W1]
  rw [show (rd1 W c).Φ t.castSucc = iprop(idle c ∗ kept W c t.val) from rfl,
    show (rd1 W c).Φ t.succ = iprop(idle c ∗ kept W c (t.val + 1)) from rfl,
    show (rd1 W c).owesAt () t.castSucc = (rd1 W c).owesAt () t.succ from rfl]
  rw [e0, e1, e2, e3]
  unfold kept
  iintro ⟨⟨HI, ⟨%f8, %e8, H8⟩, ⟨%f9, %e9, H9⟩, ⟨%f10, %e10, H10⟩, ⟨%f11, %e11, H11⟩, ⟨%f12, H12⟩, ⟨%f13, H13⟩, ⟨%f14, H14⟩, ⟨%f15, H15⟩⟩, HO, H0, H1, H2, H3, H4, H5, H6, H7⟩
  iapply (first_owns (F := F) c (grid1.coords t) hc1 hc2 (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
      (xBlk W t) (w8Blk W t) (colBlk W t) (woBlk W t) (Y 4) (Y 5) (Y 6) (Y 7) f8 f9 f10 f11 f12 f13 f14 f15)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  isplitl [HI H8 H9 H10 H11 H12 H13 H14 H15]
  · isplitl [HI]; · iexact HI
    isplitl [H8]; · iexists _; isplitr; (· ipureintro; exact fun s hs => by obtain rfl : s = t := Fin.ext (Nat.succ.inj hs); rfl); iexact H8
    isplitl [H9]; · iexists _; isplitr; (· ipureintro; exact fun s hs => by obtain rfl : s = t := Fin.ext (Nat.succ.inj hs); rfl); iexact H9
    isplitl [H10]; · iexists _; isplitr; (· ipureintro; exact fun s hs => by obtain rfl : s = t := Fin.ext (Nat.succ.inj hs); rfl); iexact H10
    isplitl [H11]; · iexists _; isplitr; (· ipureintro; exact fun s hs => by obtain rfl : s = t := Fin.ext (Nat.succ.inj hs); rfl); iexact H11
    isplitl [H12]; · iexists _; iexact H12
    isplitl [H13]; · iexists _; iexact H13
    isplitl [H14]; · iexists _; iexact H14
    iexists _; iexact H15
  isplitl [HO]; · iexact HO
  isplitl [H0]; · iexists (xBlk W t); isplitr; (· ipureintro; exact rfl); iexact H0
  isplitl [H1]; · iexists (w8Blk W t); isplitr; (· ipureintro; exact rfl); iexact H1
  isplitl [H2]; · iexists (colBlk W t); isplitr; (· ipureintro; exact rfl); iexact H2
  isplitl [H3]; · iexists (woBlk W t); isplitr; (· ipureintro; exact rfl); iexact H3
  isplitl [H4]; · iexists (Y 4); isplitr; (· ipureintro; exact fun s hs => absurd hs (by omega)); iexact H4
  isplitl [H5]; · iexists (codesOut W c t); isplitr; (· ipureintro; exact rfl); iexact H5
  isplitl [H6]; · iexists (scaleOut W c t (Y 6)); isplitr; (· ipureintro; exact rfl); iexact H6
  iexists (zeroOut W c t (Y 7)); isplitr; (· ipureintro; exact rfl); iexact H7

set_option backward.isDefEq.respectTransparency.types false in
set_option maxHeartbeats 1000000 in
/-- The main kernel meets its proof data at every later grid point. -/
theorem body1_step (c : Dev nD) (t : Fin cfg1.N) (s : Fin cfg1.N) (hs : s.val + 1 = t.val) (Y : (w : Fin cfg1.W) → (cfg1.win w).block.Idx → Elt F (cfg1.win w).elt)
    (hY : ∀ w, (rd1 W c).Finds w t (Y w)) :
    iprop((rd1 W c).Φ t.castSucc ∗ (rd1 W c).owesAt () t.castSucc
        ∗ bigSep (Finset.univ : Finset (Fin cfg1.W)) fun w => (owns (c : Thread nD τ) ((cfg1.win w).stage (cfg1.slots t w)) fullShare (Y w) : sProp 𝕄))
      ⊢ wp frame (wpE (defs₀ (F := F)) Variants.none c none) Set.univ (defs₀ (F := F) .tc cfg1.body (cfg1.bodyArgs t (cfg1.slots t))) fun _ =>
        iprop((rd1 W c).Φ t.succ ∗ (rd1 W c).owesAt () t.succ
          ∗ bigSep (Finset.univ : Finset (Fin cfg1.W)) fun w => iprop(∃ X, ⌜(rd1 W c).after w t (Y w) X⌝ ∗ owns (c : Thread nD τ) ((cfg1.win w).stage (cfg1.slots t w)) fullShare X)) := by
  have hc1 : ¬ k1_cond1 (grid1.coords t) = 1#1 := fun h => absurd ((cond1_iff t).1 h) (by omega)
  have hc2 : k1_cond2 (grid1.coords t) = 1#1 := (cond2_iff t).2 (by omega)
  have e0 := finds1_0 W c t (Y 0) (hY 0)
  have e1 := finds1_1 W c t (Y 1) (hY 1)
  have e2 := finds1_2 W c t (Y 2) (hY 2)
  have e3 := finds1_3 W c t (Y 3) (hY 3)
  rw [bigSep_W1, bigSep_W1]
  rw [show (rd1 W c).Φ t.castSucc = iprop(idle c ∗ kept W c t.val) from rfl,
    show (rd1 W c).Φ t.succ = iprop(idle c ∗ kept W c (t.val + 1)) from rfl,
    show (rd1 W c).owesAt () t.castSucc = (rd1 W c).owesAt () t.succ from rfl]
  rw [e0, e1, e2, e3]
  unfold kept
  iintro ⟨⟨HI, ⟨%f8, %e8, H8⟩, ⟨%f9, %e9, H9⟩, ⟨%f10, %e10, H10⟩, ⟨%f11, %e11, H11⟩, ⟨%f12, H12⟩, ⟨%f13, H13⟩, ⟨%f14, H14⟩, ⟨%f15, H15⟩⟩, HO, H0, H1, H2, H3, H4, H5, H6, H7⟩
  obtain rfl := e8 s hs
  obtain rfl := e9 s hs
  obtain rfl := e10 s hs
  obtain rfl := e11 s hs
  iapply (step_owns (F := F) c (grid1.coords t) hc1 hc2 (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
      (xBlk W t) (w8Blk W t) (colBlk W t) (woBlk W t) (Y 4) (Y 5) (Y 6) (Y 7) (qOf c (st1_0 s) (Memref.whole cc1_scratch0) (xC W c s)) (oOf c (st1_0 s) (Memref.whole cc1_scratch1) (xC W c s)) (sOf c (st1_0 s) (Memref.whole cc1_scratch2) (xC W c s)) (zOf c (st1_0 s) (Memref.whole cc1_scratch3) (xC W c s)) f12 f13 f14 f15)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, ⟨%g12, H12⟩, ⟨%g13, H13⟩, ⟨%g14, H14⟩, ⟨%g15, H15⟩⟩
  isplitl [HI H8 H9 H10 H11 H12 H13 H14 H15]
  · isplitl [HI]; · iexact HI
    isplitl [H8]; · iexists _; isplitr; (· ipureintro; exact fun s hs => by obtain rfl : s = t := Fin.ext (Nat.succ.inj hs); rfl); iexact H8
    isplitl [H9]; · iexists _; isplitr; (· ipureintro; exact fun s hs => by obtain rfl : s = t := Fin.ext (Nat.succ.inj hs); rfl); iexact H9
    isplitl [H10]; · iexists _; isplitr; (· ipureintro; exact fun s hs => by obtain rfl : s = t := Fin.ext (Nat.succ.inj hs); rfl); iexact H10
    isplitl [H11]; · iexists _; isplitr; (· ipureintro; exact fun s hs => by obtain rfl : s = t := Fin.ext (Nat.succ.inj hs); rfl); iexact H11
    isplitl [H12]; · iexists _; iexact H12
    isplitl [H13]; · iexists _; iexact H13
    isplitl [H14]; · iexists _; iexact H14
    iexists _; iexact H15
  isplitl [HO]; · iexact HO
  isplitl [H0]; · iexists (xBlk W t); isplitr; (· ipureintro; exact rfl); iexact H0
  isplitl [H1]; · iexists (w8Blk W t); isplitr; (· ipureintro; exact rfl); iexact H1
  isplitl [H2]; · iexists (colBlk W t); isplitr; (· ipureintro; exact rfl); iexact H2
  isplitl [H3]; · iexists (woBlk W t); isplitr; (· ipureintro; exact rfl); iexact H3
  isplitl [H4]; · iexists (yOut W c s t); isplitr; (· ipureintro; exact fun s' hs' => by obtain rfl : s = s' := Fin.ext (by omega); rfl); iexact H4
  isplitl [H5]; · iexists (codesOut W c t); isplitr; (· ipureintro; exact rfl); iexact H5
  isplitl [H6]; · iexists (scaleOut W c t (Y 6)); isplitr; (· ipureintro; exact rfl); iexact H6
  iexists (zeroOut W c t (Y 7)); isplitr; (· ipureintro; exact rfl); iexact H7

/-- The main kernel meets its proof data at every grid point. -/
theorem body1 (c : Dev nD) : (rd1 W c).BodyObligation (defs₀ (F := F)) Variants.none () Set.univ := fun t Y hY => by
  by_cases h0 : t.val = 0
  · exact body1_first W c t h0 Y hY
  · exact body1_step W c t ⟨t.val - 1, by omega⟩ (Nat.succ_pred_eq_of_ne_zero h0) Y hY

end Cert.Proof.KernelIdeal

end
-- ==== Proof.KernelIdeal.Run.lean ====
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic
public import proofs.«01_k».proof.Proof.Gen.KernelIdeal.Regions
public import proofs.«01_k».proof.Proof.KernelIdeal.Data1

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf pin arrRef cellsGhost toksInit HostSeg)
open Cert.Proof.Shared

variable {F : FTy → Type} [FloatOps F]

local notation "𝕄" => MT nD τ sig Unit (Elt F) ℕ UU ℕ

variable (m : (ℓ : Loc nD τ sig) → Buf (Elt F) ℓ)

/-- Contents for every array of the weight preparation, -/
abbrev Arr0 (c : Dev nD) : Type := (w : Fin cfg0.W) → Buf (Elt F) ((cfg0.win w).arr.view.loc (c : Thread nD τ))
/-- and of the main kernel. -/
abbrev Arr1 (c : Dev nD) : Type := (w : Fin cfg1.W) → Buf (Elt F) ((cfg1.win w).arr.view.loc (c : Thread nD τ))

/-- The valuation after the weight preparation, given the contents of its arrays, -/
def after0 (V : Valuation τ sig (Elt F)) {c : Dev nD} (A : Arr0 (F := F) c) : Valuation τ sig (Elt F) :=
  Function.update (Function.update V main_v1_0 (A 2)) main_v1_1 (A 3)
/-- and after the main kernel. -/
def after1 (V : Valuation τ sig (Elt F)) {c : Dev nD} (A : Arr1 (F := F) c) : Valuation τ sig (Elt F) :=
  Function.update (Function.update (Function.update (Function.update V main_v2_0 (A 4)) main_v2_1 (A 5)) main_v2_2 (A 6)) main_v2_3 (A 7)

theorem after0_v1_0 (V : Valuation τ sig (Elt F)) {c : Dev nD} (A : Arr0 (F := F) c) : after0 V A main_v1_0 = A 2 := by
  unfold after0
  rw [Function.update_of_ne (StableHlo.devRef_ne_of_ne (by decide)), Function.update_self]
theorem after0_v1_1 (V : Valuation τ sig (Elt F)) {c : Dev nD} (A : Arr0 (F := F) c) : after0 V A main_v1_1 = A 3 := by
  unfold after0
  rw [Function.update_self]
theorem after0_of (V : Valuation τ sig (Elt F)) {c : Dev nD} (A : Arr0 (F := F) c) (b : Ref sig .tc) (h0 : b ≠ main_v1_0) (h1 : b ≠ main_v1_1) :
    after0 V A b = V b := by
  unfold after0
  rw [Function.update_of_ne (StableHlo.devRef_ne_of_ne h1), Function.update_of_ne (StableHlo.devRef_ne_of_ne h0)]

theorem after1_v2_0 (V : Valuation τ sig (Elt F)) {c : Dev nD} (A : Arr1 (F := F) c) : after1 V A main_v2_0 = A 4 := by
  unfold after1
  rw [Function.update_of_ne (StableHlo.devRef_ne_of_ne (by decide)), Function.update_of_ne (StableHlo.devRef_ne_of_ne (by decide)),
    Function.update_of_ne (StableHlo.devRef_ne_of_ne (by decide)), Function.update_self]
theorem after1_v2_1 (V : Valuation τ sig (Elt F)) {c : Dev nD} (A : Arr1 (F := F) c) : after1 V A main_v2_1 = A 5 := by
  unfold after1
  rw [Function.update_of_ne (StableHlo.devRef_ne_of_ne (by decide)), Function.update_of_ne (StableHlo.devRef_ne_of_ne (by decide)), Function.update_self]
theorem after1_v2_2 (V : Valuation τ sig (Elt F)) {c : Dev nD} (A : Arr1 (F := F) c) : after1 V A main_v2_2 = A 6 := by
  unfold after1
  rw [Function.update_of_ne (StableHlo.devRef_ne_of_ne (by decide)), Function.update_self]
theorem after1_v2_3 (V : Valuation τ sig (Elt F)) {c : Dev nD} (A : Arr1 (F := F) c) : after1 V A main_v2_3 = A 7 := by
  unfold after1
  rw [Function.update_self]
theorem after1_of (V : Valuation τ sig (Elt F)) {c : Dev nD} (A : Arr1 (F := F) c) (b : Ref sig .tc)
    (h0 : b ≠ main_v2_0) (h1 : b ≠ main_v2_1) (h2 : b ≠ main_v2_2) (h3 : b ≠ main_v2_3) : after1 V A b = V b := by
  unfold after1
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- A buffer that is no window's array is none of those the kernel writes. -/
theorem other0 (b : Ref sig .tc) (hb : b ∉ Finset.univ.image (arrRef spec0)) (b' : Ref sig .tc) (h : b' ∈ Finset.univ.image (arrRef spec0)) : b ≠ b' :=
  fun e => hb (e ▸ h)
theorem other1 (b : Ref sig .tc) (hb : b ∉ Finset.univ.image (arrRef spec1)) (b' : Ref sig .tc) (h : b' ∈ Finset.univ.image (arrRef spec1)) : b ≠ b' :=
  fun e => hb (e ▸ h)

/-- The proof data of both pipelines, entered from one valuation. -/
def rdats (W : Dev nD → Valuation τ sig (Elt F)) : (p : Fin 2) → (c : Dev nD) → RDat τ (Elt F) Unit ℕ UU ℕ (pin (pcfgs (F := F)) adm p) c
  | ⟨0, _⟩ => fun c => rd0 (W c) c
  | ⟨1, _⟩ => fun c => rd1 (W c) c
  | ⟨_ + 2, h⟩ => absurd h (Nat.not_lt.2 (Nat.le_add_left _ _))

/-- No cell is booked and none has a level. -/
abbrev L0 : GSem nD τ sig → Finset Unit := fun _ => ∅
abbrev lv0 : GSem nD τ sig → Unit → ℕ := fun _ _ => 0

/-- The launch's own copies of the pipeline library's algebra. -/
abbrev EP0 : Emb (URounds (GSem nD τ sig) Unit) 𝕄 := embAt 0
abbrev EP1 : Emb (URounds (GSem nD τ sig) Unit) 𝕄 := embAt 1

/-- The second launch's ghost state, which waits through the first. -/
def ghost1 (c : Dev nD) : sProp 𝕄 :=
  iprop(cellsGhost (pin (pcfgs (F := F)) adm) EP1 1 c ∗ toksInit (pin (pcfgs (F := F)) adm) EP1 1 c)

/-- The weight preparation's invariant is the scoped buffers that it does not stage in. -/
theorem in0 (W : Valuation τ sig (Elt F)) (c : Dev nD) :
    (Pipeline.scopedRest (Ix := Unit) (Name := ℕ) (U := UU) (Lvl := ℕ) (Val := Elt F) spec0 c : sProp 𝕄) ⊢ (rd0 W c).Φ 0 := by
  unfold rd0; exact .rfl
theorem out0 (W : Valuation τ sig (Elt F)) (c : Dev nD) :
    (rd0 W c).Φ (Fin.last _) ⊢ (Pipeline.scopedRest (Ix := Unit) (Name := ℕ) (U := UU) (Lvl := ℕ) (Val := Elt F) spec0 c : sProp 𝕄) := by
  unfold rd0; exact .rfl

set_option backward.isDefEq.respectTransparency.types false in
/-- The weight preparation as a stretch of the host program. -/
def R0 (o : Dev nD → Valuation τ sig (Elt F)) : RDat.RegionSeg (pcfgs (F := F)) adm (rdats o) () defs₀ Variants.none L0 lv0 0 :=
  regionSeg (pcfgs (F := F)) adm (rdats o) () defs₀ Variants.none L0 lv0 0 launch0.toP rfl
    (fun c => body0 (o c) c) (fun _ _ => rfl) (fun _ _ => rfl)
    (fun c w => by match w with | 0 => rfl | 1 => rfl | 2 => rfl | 3 => rfl)
    (fun c b => o c b) ghost1 (fun _ _ => rfl)
    (fun c A b => after0 (c := c) (o c) A b)
    (fun c A hA w => by
      match w with
      | 0 => exact (show A 0 = o c main_arg1 from by
          have := hA 0; rw [Pipeline.RDat.ArrAt_in _ _ rfl] at this; exact this).trans (after0_of (c := c) (o c) A main_arg1 (by decide) (by decide)).symm
      | 1 => exact (show A 1 = o c main_v0 from by
          have := hA 1; rw [Pipeline.RDat.ArrAt_in _ _ rfl] at this; exact this).trans (after0_of (c := c) (o c) A main_v0 (by decide) (by decide)).symm
      | 2 => exact (after0_v1_0 (c := c) (o c) A).symm
      | 3 => exact (after0_v1_1 (c := c) (o c) A).symm)
    (fun c A b hb => after0_of (c := c) (o c) A b
      (other0 b hb main_v1_0 (by decide)) (other0 b hb main_v1_1 (by decide)))
    (fun c => in0 (o c) c) (fun c => out0 (o c) c)

/-- A valuation that the weight preparation may leave. -/
def prepared (c : Dev nD) (o : Valuation τ sig (Elt F)) : Prop :=
  ∃ A : Arr0 (F := F) c, (∀ w, (rd0 (V1 m c) c).ArrAt w cfg0.N (A w)) ∧ o = after0 (V1 m c) A

set_option backward.isDefEq.respectTransparency.types false in
/-- The main kernel entered from a given valuation. -/
def R1 (o : Valuation τ sig (Elt F)) : RDat.RegionSeg (pcfgs (F := F)) adm (rdats fun _ => o) () defs₀ Variants.none L0 lv0 1 :=
  regionSeg (pcfgs (F := F)) adm (rdats fun _ => o) () defs₀ Variants.none L0 lv0 1 launch1.toP rfl
    (fun c => body1 o c) (fun _ _ => rfl) (fun _ _ => rfl)
    (fun c w => by match w with | 0 => rfl | 1 => rfl | 2 => rfl | 3 => rfl | 4 => rfl | 5 => rfl | 6 => rfl | 7 => rfl)
    (fun c b => o b) (fun _ => BI.emp) (fun _ _ => rfl)
    (fun c A b => after1 (c := c) o A b)
    (fun c A hA w => by
      match w with
      | 0 => exact (show A 0 = o main_arg0 from by
          have := hA 0; rw [Pipeline.RDat.ArrAt_in _ _ rfl] at this; exact this).trans (after1_of _ _ _ (by decide) (by decide) (by decide) (by decide)).symm
      | 1 => exact (show A 1 = o main_v1_0 from by
          have := hA 1; rw [Pipeline.RDat.ArrAt_in _ _ rfl] at this; exact this).trans (after1_of _ _ _ (by decide) (by decide) (by decide) (by decide)).symm
      | 2 => exact (show A 2 = o main_v1_1 from by
          have := hA 2; rw [Pipeline.RDat.ArrAt_in _ _ rfl] at this; exact this).trans (after1_of _ _ _ (by decide) (by decide) (by decide) (by decide)).symm
      | 3 => exact (show A 3 = o main_arg3 from by
          have := hA 3; rw [Pipeline.RDat.ArrAt_in _ _ rfl] at this; exact this).trans (after1_of _ _ _ (by decide) (by decide) (by decide) (by decide)).symm
      | 4 => exact (after1_v2_0 (c := c) o A).symm
      | 5 => exact (after1_v2_1 (c := c) o A).symm
      | 6 => exact (after1_v2_2 (c := c) o A).symm
      | 7 => exact (after1_v2_3 (c := c) o A).symm)
    (fun c A b hb => after1_of _ _ _
      (other1 b hb main_v2_0 (by decide)) (other1 b hb main_v2_1 (by decide))
      (other1 b hb main_v2_2 (by decide)) (other1 b hb main_v2_3 (by decide)))
    (fun c => rest_kept o c) (fun c => kept_rest o c)

/-- The main kernel as a stretch entered from some valuation that the weight preparation may leave. -/
def S1 : HostSeg (Ix := Unit) (Name := ℕ) (U := UU) (Lvl := ℕ) (pcfgs (F := F)) defs₀ Variants.none L0 lv0 :=
  someRegion (pcfgs (F := F)) adm () cellOf_inj defs₀ Variants.none L0 lv0 EP1 1 (fun o => rdats fun _ => o) (fun o c => prepared m c o) (R1 (F := F))

/-- What rides along with the buffers. -/
def rest (_ : Fin 3) (c : Dev nD) : sProp 𝕄 := iprop(ghost1 c ∗ ∃ W, owes (c : Thread nD τ) (0 : CellTallies nD τ sig Unit) W)

/-- The program's items. -/
abbrev items : List (RDat.Seg (pcfgs (F := F)) adm (rdats (V1 m)) () defs₀ Variants.none L0 lv0) :=
  [.host (seg0 m Variants.none L0 lv0 (rest (F := F))), .region (R0 (V1 m)), .host (S1 m)]

/-- The last state of a core: its buffers at a valuation that the two kernels may leave. -/
def last (c : Dev nD) : sProp 𝕄 :=
  iprop(∃ o, ⌜prepared m c o⌝ ∗ ∃ A : Arr1 (F := F) c, ⌜∀ w, (rd1 o c).ArrAt w cfg1.N (A w)⌝ ∗ StableHlo.held (c : Thread nD τ) (Pipeline.ucRefs τ sig) (after1 o A))

/-- The memories that the program may end with, on one core. -/
def Ends (c : Dev nD) (s : MemSt nD τ sig (Elt F)) : Prop :=
  ∃ o, prepared m c o ∧ ∃ A : Arr1 (F := F) c, (∀ w, (rd1 o c).ArrAt w cfg1.N (A w)) ∧ ∀ b ∈ Pipeline.ucRefs τ sig, s.mem (c, b) = after1 o A b

/-- The launch's element of the algebra. -/
def u0 : UU := (fun _ => initOf (Pipeline.cells cfgs cellOf_inj) (Pipeline.launchToks cfgs cellOf_inj), 1)

set_option backward.isDefEq.respectTransparency.types false in
/-- It makes the first launch's ghost element and, on every core, the second launch's ghost state. -/
theorem fund : (ownU u0 : sProp 𝕄) ⊢ |={Set.univ}=> iprop(BI.own (EP0 (initOf (Pipeline.cells (pin (pcfgs (F := F)) adm) cellOf_inj) (Pipeline.launchToks (pin (pcfgs (F := F)) adm) cellOf_inj)))
    ∗ bigSep Finset.univ fun c : Dev nD => (ghost1 c : sProp 𝕄)) := by
  have hsplit : (ownU u0 : sProp 𝕄) ⊢ bigSep Finset.univ fun j : Fin 2 => BI.own ((embAt j : Emb (URounds (GSem nD τ sig) Unit) 𝕄)
      (initOf (Pipeline.cells cfgs cellOf_inj) (Pipeline.launchToks cfgs cellOf_inj))) :=
    own_iprod (fun _ => initOf (Pipeline.cells cfgs cellOf_inj) (Pipeline.launchToks cfgs cellOf_inj))
  have hghost : (BI.own (EP1 (initOf (Pipeline.cells (pin (pcfgs (F := F)) adm) cellOf_inj) (Pipeline.launchToks (pin (pcfgs (F := F)) adm) cellOf_inj))) : sProp 𝕄)
      ⊢ |==> bigSep Finset.univ fun c : Dev nD => (ghost1 c : sProp 𝕄) := by
    refine (Pipeline.fund_ghost (pin (pcfgs (F := F)) adm) EP1 cellOf_inj).trans (BI.bupd_mono ?_)
    unfold ghost1
    rw [bigSep_sep']
    exact sep_mono (bigSep_mono fun c _ => bigSep_elim (Finset.mem_univ _)) (bigSep_mono fun c _ => bigSep_elim (Finset.mem_univ _))
  rw [bigSep_univ_eq_bigSepL [(0 : Fin 2), (1 : Fin 2)] (by decide) (by decide), show (∀ Φ : Fin 2 → sProp 𝕄, bigSepL [(0 : Fin 2), (1 : Fin 2)] Φ = iprop(Φ 0 ∗ Φ 1)) from fun _ => rfl] at hsplit
  iintro H
  ihave H := hsplit $$ H
  icases H with ⟨H0, H1⟩
  imod hghost $$ H1 with H1
  imodintro
  isplitl [H0]; · iexact H0
  iexact H1

set_option backward.isDefEq.respectTransparency.types false in
/-- What the weight preparation is entered from, -/
theorem R0_pre (o : Dev nD → Valuation τ sig (Elt F)) (c : Dev nD) :
    (R0 o).pre c = iprop(unscopedBufs c (fun b => o c b) ∗ ghost1 c ∗ ∃ W, owes (c : Thread nD τ) (0 : CellTallies nD τ sig Unit) W) := by
  rfl
set_option backward.isDefEq.respectTransparency.types false in
/-- and what it leaves. -/
theorem R0_post (o : Dev nD → Valuation τ sig (Elt F)) (c : Dev nD) :
    (R0 o).post c = iprop(∃ A : Arr0 (F := F) c, ⌜∀ w, (rd0 (o c) c).ArrAt w cfg0.N (A w)⌝ ∗ unscopedBufs c (fun b => after0 (o c) A b) ∗ ghost1 c ∗ ∃ W, owes (c : Thread nD τ) (0 : CellTallies nD τ sig Unit) W) := by
  rfl
set_option backward.isDefEq.respectTransparency.types false in
/-- What the main kernel is entered from, -/
theorem R1_pre (o : Valuation τ sig (Elt F)) (c : Dev nD) :
    (R1 o).pre c = iprop(unscopedBufs c (fun b => o b) ∗ BI.emp ∗ ∃ W, owes (c : Thread nD τ) (0 : CellTallies nD τ sig Unit) W) := by
  rfl
set_option backward.isDefEq.respectTransparency.types false in
/-- and what it leaves. -/
theorem R1_post (o : Valuation τ sig (Elt F)) (c : Dev nD) :
    (R1 o).post c = iprop(∃ A : Arr1 (F := F) c, ⌜∀ w, (rd1 o c).ArrAt w cfg1.N (A w)⌝ ∗ unscopedBufs c (fun b => after1 o A b) ∗ BI.emp ∗ ∃ W, owes (c : Thread nD τ) (0 : CellTallies nD τ sig Unit) W) := by
  rfl
set_option backward.isDefEq.respectTransparency.types false in
/-- What the main kernel's stretch is entered from, -/
theorem S1_pre (c : Dev nD) :
    (S1 m).pre c = iprop(∃ o, ⌜prepared m c o⌝ ∗ iprop(unscopedBufs c (fun b => o b) ∗ BI.emp ∗ ∃ W, owes (c : Thread nD τ) (0 : CellTallies nD τ sig Unit) W) ∗ cellsGhost (pin (pcfgs (F := F)) adm) EP1 1 c ∗ toksInit (pin (pcfgs (F := F)) adm) EP1 1 c) := by
  show iprop(∃ o, ⌜prepared m c o⌝ ∗ (R1 o).pre c ∗ cellsGhost (pin (pcfgs (F := F)) adm) EP1 1 c ∗ toksInit (pin (pcfgs (F := F)) adm) EP1 1 c) = _
  simp only [R1_pre]
set_option backward.isDefEq.respectTransparency.types false in
/-- and what it leaves. -/
theorem S1_post (c : Dev nD) :
    (S1 m).post c = iprop(∃ o, ⌜prepared m c o⌝ ∗ iprop(∃ A : Arr1 (F := F) c, ⌜∀ w, (rd1 o c).ArrAt w cfg1.N (A w)⌝ ∗ unscopedBufs c (fun b => after1 o A b) ∗ BI.emp ∗ ∃ W, owes (c : Thread nD τ) (0 : CellTallies nD τ sig Unit) W)) := by
  show iprop(∃ o, ⌜prepared m c o⌝ ∗ (R1 o).post c) = _
  simp only [R1_post]
set_option backward.isDefEq.respectTransparency.types false in
/-- The host line's last state is the weight preparation's first, -/
theorem chainA (c : Dev nD) :
    iprop(StableHlo.held (c : Thread nD τ) (Pipeline.ucRefs τ sig) (V1 m c) ∗ rest 0 c)
      ⊢ iprop(unscopedBufs c (fun b => V1 m c b) ∗ ghost1 c ∗ ∃ W, owes (c : Thread nD τ) (0 : CellTallies nD τ sig Unit) W) := by
  rw [Pipeline.unscopedBufs_held c (V1 m c)]
  unfold rest
  iintro ⟨Hb, Hg, HO⟩
  isplitl [Hb]; · iexact Hb
  isplitl [Hg]; · iexact Hg
  iexact HO
set_option backward.isDefEq.respectTransparency.types false in
/-- its last state is the main kernel's first, -/
theorem chainB (c : Dev nD) :
    iprop(∃ A : Arr0 (F := F) c, ⌜∀ w, (rd0 (V1 m c) c).ArrAt w cfg0.N (A w)⌝ ∗ unscopedBufs c (fun b => after0 (V1 m c) A b) ∗ ghost1 c ∗ ∃ W, owes (c : Thread nD τ) (0 : CellTallies nD τ sig Unit) W)
      ⊢ iprop(∃ o, ⌜prepared m c o⌝ ∗ iprop(unscopedBufs c (fun b => o b) ∗ BI.emp ∗ ∃ W, owes (c : Thread nD τ) (0 : CellTallies nD τ sig Unit) W) ∗ cellsGhost (pin (pcfgs (F := F)) adm) EP1 1 c ∗ toksInit (pin (pcfgs (F := F)) adm) EP1 1 c) := by
  unfold ghost1
  iintro ⟨%A, %hA, Hb, Hg, HO⟩
  iexists (after0 (V1 m c) A)
  isplitr; · ipureintro; exact ⟨A, hA, rfl⟩
  isplitr [Hg]
  · isplitl [Hb]; · iexact Hb
    isplitr; · iempintro
    iexact HO
  iexact Hg
set_option backward.isDefEq.respectTransparency.types false in
/-- and the main kernel's last is the program's. -/
theorem chainC (c : Dev nD) :
    iprop(∃ o, ⌜prepared m c o⌝ ∗ iprop(∃ A : Arr1 (F := F) c, ⌜∀ w, (rd1 o c).ArrAt w cfg1.N (A w)⌝ ∗ unscopedBufs c (fun b => after1 o A b) ∗ BI.emp ∗ ∃ W, owes (c : Thread nD τ) (0 : CellTallies nD τ sig Unit) W))
      ⊢ iprop(last m c ∗ ∃ W, owes (c : Thread nD τ) (0 : CellTallies nD τ sig Unit) W) := by
  unfold last
  iintro ⟨%o, %ho, %A, %hA, Hb, -, HO⟩
  ihave Hb := (BIBase.Entails.of_eq (Pipeline.unscopedBufs_held (Ix := Unit) (Name := ℕ) (U := UU) (Lvl := ℕ) c (after1 o A))) $$ Hb
  isplitl [Hb]
  · iexists o
    isplitr; · ipureintro; exact ho
    iexists A
    isplitr; · ipureintro; exact hA
    iexact Hb
  iexact HO
set_option backward.isDefEq.respectTransparency.types false in
/-- The launch makes the first state. -/
theorem launch (ρ : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ ghost1 c)) ∗ levAts L0 lv0)
      ⊢ (|={Set.univ}=> bigSep Finset.univ fun c : Dev nD => iprop(StableHlo.held (c : Thread nD τ) (Pipeline.ucRefs τ sig) (V0 m c) ∗ rest 0 c) : sProp 𝕄) := by
  have he : ∀ c : Dev nD, (unscopedBufs c (fun b => m ((c.tc : Thread nD τ).loc b)) : sProp 𝕄) ⊢ StableHlo.held (c : Thread nD τ) (Pipeline.ucRefs τ sig) (V0 m c) :=
    fun c => .of_eq (Pipeline.unscopedBufs_held (Ix := Unit) (Name := ℕ) (U := UU) (Lvl := ℕ) c (V0 m c))
  have hc : ∀ c : Dev nD, iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ ghost1 c)
      ⊢ (iprop(StableHlo.held (c : Thread nD τ) (Pipeline.ucRefs τ sig) (V0 m c) ∗ rest 0 c) : sProp 𝕄) := fun c => by
    unfold rest
    iintro ⟨Hb, -, HO, -, -, Hg⟩
    isplitl [Hb]; · iapply (he c); iexact Hb
    isplitl [Hg]; · iexact Hg
    iexists ∅; iexact HO
  have hsplit : (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ ghost1 c))
      ⊢ (bigSep Finset.univ fun c : Dev nD => iprop(StableHlo.held (c : Thread nD τ) (Pipeline.ucRefs τ sig) (V0 m c) ∗ rest 0 c) : sProp 𝕄) :=
    bigSep_mono fun c _ => hc c
  iintro ⟨H, -⟩
  ihave H := hsplit $$ H
  imodintro
  iexact H

set_option backward.isDefEq.respectTransparency.types false in
/-- The last state tells what the memory holds. -/
theorem readOff (c : Dev nD) (s' : Phys nD τ sig (Elt F)) :
    iprop(last m c ∗ SI s') ⊢ |={Set.univ}=> (iprop(⌜Ends m c s'.mem⌝ ∗ SI s') : sProp 𝕄) := by
  unfold last StableHlo.held
  iintro ⟨⟨%o, %ho, %A, %hA, Hh⟩, HSI⟩
  ihave Hr := (pointsTo_read_all (Pipeline.ucRefs τ sig) (fun b => ((c : Thread nD τ).1, b)) (after1 o A) s') $$ [Hh HSI]
  · isplitl [Hh] <;> iassumption
  icases Hr with ⟨%h, HSI⟩
  imodintro
  isplitr
  · ipureintro
    exact ⟨o, ho, A, hA, h⟩
  · iexact HSI

set_option backward.isDefEq.respectTransparency.types false in
/-- Every run of the program ends, with every semaphore counter at zero, in one of the memories described by `Ends`. -/
theorem run_ends (ρ : Dev nD → PrngReg) :
    θ_run defs (onTc (τ := τ) (main (F := F))) ⟨m, fun _ => 0, ρ⟩ (fun r => (∀ c : Dev nD, Ends m c r.2) ∧ r.2.sem = fun _ => 0) := by
  refine RDat.θ_run_regions_kit_dev_sems (pcfgs (F := F)) adm (rdats (V1 m)) () cellOf_inj EP0 defs₀ Variants.none L0 lv0 m ρ main
    (fun _ => items m)
    (fun c Q => by
      rewrite [main_chain c, RDat.Seg.run_eq_chain,
        show (items m).map RDat.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [items, RDat.Seg.pipes_host, RDat.Seg.pipes_region, RDat.Seg.pipes_nil]; decide) (fun _ => 0) (fun _ _ => rfl)
    (fun c => ghost1 c) u0 fund
    (T₀ := fun c => iprop(StableHlo.held (c : Thread nD τ) (Pipeline.ucRefs τ sig) (V0 m c) ∗ rest 0 c))
    (Tₙ := fun c => last m c)
    (hch := fun c => ⟨.rfl, ?_, ?_, ?_⟩)
    (hinit := ?_) (QY := fun c s => Ends m c s)
    (hfin := fun c s' => ?_) (hQ := fun _ h hz => ⟨h, funext fun g => hz g (.inr (regions_no_unscoped g.2))⟩)
  · exact (chainA m c).trans (.of_eq (R0_pre (V1 m) c).symm)
  · exact (BIBase.Entails.of_eq (R0_post (V1 m) c)).trans ((chainB m c).trans (.of_eq (S1_pre m c).symm))
  · exact (BIBase.Entails.of_eq (S1_post m c)).trans (chainC m c)
  · exact launch m ρ
  · exact readOff m c s'

/-- An argument ends as launched. -/
theorem Ends.arg {c : Dev nD} {s : MemSt nD τ sig (Elt F)} (h : Ends m c s) (b : Ref sig .tc) (hu : b.isScoped = false)
    (h1 : b ≠ main_v2_0) (h2 : b ≠ main_v2_1) (h3 : b ≠ main_v2_2) (h4 : b ≠ main_v2_3) (h5 : b ≠ main_v1_0) (h6 : b ≠ main_v1_1)
    (h7 : b ∉ hostOps0_W) : s.mem ((c : Thread nD τ).loc b) = m ((c : Thread nD τ).loc b) := by
  obtain ⟨o, ⟨A0, -, rfl⟩, A, -, hb⟩ := h
  refine (hb (Proc.devRef .tc b) (Finset.mem_filter.mpr ⟨StableHlo.devRef_mem_tcRefs b, ?_⟩)).trans ?_
  · simpa using hu
  · exact (after1_of _ _ _ h1 h2 h3 h4).trans ((after0_of _ _ _ h5 h6).trans ((V1_of m c b h7).trans rfl))

/-- Every run ends with the arguments as launched and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
    ⟨(h.1 c).arg m main_arg0 rfl (by decide) (by decide) (by decide) (by decide) (by decide) (by decide) (by decide),
      (h.1 c).arg m main_arg1 rfl (by decide) (by decide) (by decide) (by decide) (by decide) (by decide) (by decide),
      (h.1 c).arg m main_arg2 rfl (by decide) (by decide) (by decide) (by decide) (by decide) (by decide) (by decide),
      (h.1 c).arg m main_arg3 rfl (by decide) (by decide) (by decide) (by decide) (by decide) (by decide) (by decide)⟩, h.2⟩) (run_ends m ρ)

end Cert.Proof.KernelIdeal

end
-- ==== Proof.Spec.lean ====
module

public import Idealize.ShloMosaic.Lib.Pointwise
public import Idealize.ShloMosaic.Lib.IdealHost
public import Idealize.ShloMosaic.Lib.Pipeline.ValueKit

@[expose] public section

noncomputable section

/-! The quantised linear layer over the extended reals, row by row: what both programs compute. -/

namespace Cert.Proof.Spec

open Idealize.ShloMosaic

/-- The least entry of a row, -/
def rowMin (g : Fin 3328 → EReal) : EReal := Finset.univ.fold min ⊤ g
/-- its greatest, -/
def rowMax (g : Fin 3328 → EReal) : EReal := Finset.univ.fold max ⊥ g
/-- and the row's scale: a fifteenth of its range, or 1 for a constant row. -/
def rowScale (g : Fin 3328 → EReal) : EReal :=
  if rowMax g = rowMin g then 1 else Ideal.div (rowMax g - rowMin g) (Ideal.ofBits .f32 0x41700000#32)

/-- An entry's offset from the least entry in units of the scale, rounded and clipped to 0..15. -/
def quant (a z s : EReal) : EReal :=
  min (Ideal.ofBits .f32 0x41700000#32) (max 0 (Ideal.liftRound Ideal.roundHalfEven (Ideal.div (a - z) s)))

/-- The code of a row's entry, before its conversion to an integer, -/
def rowQ (g : Fin 3328 → EReal) (j : Fin 3328) : EReal := quant (g j) (rowMin g) (rowScale g)

/-- and as it is stored. -/
def codeBits (q : EReal) : BitVec 8 := BitVec.setWidth 8 (Ideal.fptosi 32 q)

/-- The signed low half of a byte, -/
def loNib (p : BitVec 8) : ℤ := (p.setWidth 4).toInt
/-- and its signed high half. -/
def hiNib (p : BitVec 8) : ℤ := ((p >>> 4).setWidth 4).toInt

/-- A column of decoded weights: the two halves of each packed byte follow one another. -/
def wt (p : Fin 1664 → BitVec 8) (j : Fin 3328) : ℤ :=
  if j.val % 2 = 0 then loNib (p ⟨j.val / 2, by omega⟩) else hiNib (p ⟨j.val / 2, by omega⟩)

/-- The sum of a column of decoded weights. -/
def wtSum (p : Fin 1664 → BitVec 8) : ℤ := ∑ j, wt p j

/-- The product of a row of codes and a column of decoded weights. -/
def rowDot (g : Fin 3328 → EReal) (p : Fin 1664 → BitVec 8) : EReal := ∑ j, rowQ g j * ((wt p j : ℝ) : EReal)

/-- One entry of the layer's result: the rescaled product of the codes, the zero point's share, and the outlier columns. -/
def layer (g : Fin 3328 → EReal) (p : Fin 1664 → BitVec 8) (ws : EReal) (o v : Fin 256 → EReal) : EReal :=
  rowScale g * ws * rowDot g p + rowMin g * (ws * ((wtSum p : ℝ) : EReal)) + ∑ x, o x * v x

theorem ofBits_fifteen : Ideal.ofBits .f32 0x41700000#32 = ((15 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_inf_bf16 : Ideal.ofBits .bf16 0x7F80#16 = ⊤ := by
  simp [Ideal.ofBits, Ideal.ieee]
theorem ofBits_ninf_bf16 : Ideal.ofBits .bf16 0xFF80#16 = ⊥ := by
  simp [Ideal.ofBits, Ideal.ieee]
theorem ofBits_inf_f32 : Ideal.ofBits .f32 0x7F800000#32 = ⊤ := by
  simp [Ideal.ofBits, Ideal.ieee]
theorem ofBits_ninf_f32 : Ideal.ofBits .f32 0xFF800000#32 = ⊥ := by
  simp [Ideal.ofBits, Ideal.ieee]

/-- A code is one of the numbers 0 to 15, whatever the entry. -/
theorem quant_nat (a z s : EReal) : ∃ n : ℕ, n ≤ 15 ∧ quant a z s = ((n : ℝ) : EReal) := by
  unfold quant
  rw [ofBits_fifteen]
  induction Ideal.div (a - z) s using EReal.rec with
  | bot =>
    refine ⟨0, by omega, ?_⟩
    show min ((15 : ℝ) : EReal) (max 0 ⊥) = _
    rw [max_eq_left bot_le, min_eq_right (by exact_mod_cast (by norm_num : (0 : ℝ) ≤ 15))]
    simp
  | top =>
    refine ⟨15, le_rfl, ?_⟩
    show min ((15 : ℝ) : EReal) (max 0 ⊤) = _
    rw [max_eq_right le_top, min_eq_left le_top]
    norm_num
  | coe r =>
    show ∃ n : ℕ, n ≤ 15 ∧ min ((15 : ℝ) : EReal) (max ((0 : ℝ) : EReal) ((Ideal.roundHalfEven r : ℝ) : EReal)) = _
    refine ⟨(min 15 (max 0 (Ideal.roundHalfEven r))).toNat, by omega, ?_⟩
    rw [← EReal.coe_strictMono.monotone.map_max, ← EReal.coe_strictMono.monotone.map_min]
    congr 1
    have h : (((min 15 (max 0 (Ideal.roundHalfEven r))).toNat : ℤ) : ℝ) = ((min 15 (max 0 (Ideal.roundHalfEven r)) : ℤ) : ℝ) := by
      rw [Int.toNat_of_nonneg (by omega)]
    rw [Int.cast_natCast] at h
    rw [h]
    push_cast
    rfl

/-- A stored code read back as a signed word is the code. -/
theorem codeBits_toInt (n : ℕ) (h : n ≤ 15) : ((codeBits ((n : ℝ) : EReal)).setWidth 32).toInt = n := by
  have e : Ideal.fptosi 32 ((n : ℝ) : EReal) = BitVec.ofInt 32 (n : ℤ) := by
    unfold Ideal.fptosi
    congr 1
    show max _ (min _ (if (0 : ℝ) ≤ (n : ℝ) then ⌊(n : ℝ)⌋ else ⌈(n : ℝ)⌉)) = _
    rw [if_pos (Nat.cast_nonneg n), Int.floor_natCast]
    norm_num
    omega
  unfold codeBits
  rw [e]
  interval_cases n <;> rfl

/-- A row's code read back from its stored form. -/
theorem read_codeBits (g : Fin 3328 → EReal) (j : Fin 3328) :
    ((((codeBits (rowQ g j)).setWidth 32).toInt : ℝ) : EReal) = rowQ g j := by
  obtain ⟨n, hn, e⟩ := quant_nat (g j) (rowMin g) (rowScale g)
  unfold rowQ
  rw [e, codeBits_toInt n hn]
  simp

/-- The entries of a row in pairs. -/
theorem sum_pairs {M : Type*} [AddCommMonoid M] (f : Fin 3328 → M) :
    ∑ j, f j = ∑ k : Fin 1664, f ⟨2 * k.val, by omega⟩ + ∑ k : Fin 1664, f ⟨2 * k.val + 1, by omega⟩ := by
  rw [← Finset.sum_add_distrib, ← Equiv.sum_comp (finProdFinEquiv (m := 1664) (n := 2)) (fun j : Fin (1664 * 2) => f j),
    Fintype.sum_prod_type]
  refine Finset.sum_congr rfl fun k _ => ?_
  rw [Fin.sum_univ_two]
  have h0 : finProdFinEquiv (k, (0 : Fin 2)) = (⟨2 * k.val, by omega⟩ : Fin (1664 * 2)) :=
    Fin.ext (show 0 + 2 * k.val = 2 * k.val by omega)
  have h1 : finProdFinEquiv (k, (1 : Fin 2)) = (⟨2 * k.val + 1, by omega⟩ : Fin (1664 * 2)) :=
    Fin.ext (show 1 + 2 * k.val = 2 * k.val + 1 by omega)
  rw [h0, h1]

theorem wt_even (p : Fin 1664 → BitVec 8) (k : Fin 1664) : wt p ⟨2 * k.val, by omega⟩ = loNib (p k) := by
  unfold wt
  rw [if_pos (by simp)]
  congr 2
  exact Fin.ext (by simp)
theorem wt_odd (p : Fin 1664 → BitVec 8) (k : Fin 1664) : wt p ⟨2 * k.val + 1, by omega⟩ = hiNib (p k) := by
  unfold wt
  rw [if_neg (by simp)]
  congr 2
  exact Fin.ext (by simp; omega)

/-- The product of the codes, split into the two halves of the packed bytes. -/
theorem rowDot_pairs (g : Fin 3328 → EReal) (p : Fin 1664 → BitVec 8) :
    rowDot g p = ∑ k : Fin 1664, rowQ g ⟨2 * k.val, by omega⟩ * ((loNib (p k) : ℝ) : EReal)
      + ∑ k : Fin 1664, rowQ g ⟨2 * k.val + 1, by omega⟩ * ((hiNib (p k) : ℝ) : EReal) := by
  unfold rowDot
  rw [sum_pairs]
  simp only [wt_even, wt_odd]

theorem coe_sum {ι : Type*} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

/-- The product of the codes less eight, and eight times the column's sum, is the product of the codes. -/
theorem rowDot_shifted (g : Fin 3328 → EReal) (p : Fin 1664 → BitVec 8) :
    ∑ j, (rowQ g j - ((8 : ℝ) : EReal)) * ((wt p j : ℝ) : EReal) + ((wtSum p : ℝ) : EReal) * ((8 : ℝ) : EReal) = rowDot g p := by
  choose n hn e using fun j => quant_nat (g j) (rowMin g) (rowScale g)
  unfold rowDot rowQ wtSum
  simp only [e]
  simp only [← EReal.coe_sub, ← EReal.coe_mul, ← coe_sum, ← EReal.coe_add]
  congr 1
  push_cast
  rw [Finset.sum_mul, ← Finset.sum_add_distrib]
  exact Finset.sum_congr rfl fun j _ => by ring

theorem coe_wtSum (p : Fin 1664 → BitVec 8) : ∑ j, ((wt p j : ℝ) : EReal) = ((wtSum p : ℝ) : EReal) := by
  rw [← coe_sum]
  unfold wtSum
  push_cast
  rfl

theorem loNib_bounds : ∀ p : BitVec 8, -8 ≤ loNib p ∧ loNib p ≤ 7 := by decide +kernel
theorem hiNib_bounds : ∀ p : BitVec 8, -8 ≤ hiNib p ∧ hiNib p ≤ 7 := by decide +kernel

/-- The low half shifted up and back down, -/
theorem lo_shift : ∀ p : BitVec 8,
    (IntOp.shrsi ArithUnit.vector (IntOp.shli ArithUnit.vector (BitVec.setWidth 32 p) 28#32) 28#32).toInt = loNib p := by
  decide +kernel
/-- and the high half. -/
theorem hi_shift : ∀ p : BitVec 8,
    (IntOp.shrsi ArithUnit.vector (IntOp.shli ArithUnit.vector (BitVec.setWidth 32 p) 24#32) 28#32).toInt = hiNib p := by
  decide +kernel

end Cert.Proof.Spec

end
-- ==== Proof.KernelIdeal.Pieces.lean ====
module

public import proofs.«01_k».proof.Proof.KernelIdeal.Body1

@[expose] public section

set_option maxRecDepth 65536

noncomputable section

/-! The lists of stores that a grid point of the main kernel makes, each as one family over the tile's number. -/

namespace Cert.Proof.KernelIdeal

open Cert.KernelIdeal Cert.KernelIdeal.Gen
open Idealize.ShloMosaic
open Idealize.ShloMosaic.TcCoe
open Idealize.SL.Sem

variable {F : FTy → Type} [FloatOps F]

/-- The columns of a point's rows that are quantised. -/
abbrev baseCols (c : Dev nD) (M0 : Memref sig .tc .vmem S256x3584 .bf16) (f0 : Bf (F := F) c M0) : FVec F S256x3328 .bf16 :=
  View.readAt (Elt F) M0.view (Rect.unit (s := S256x3584) ![0, 0] S256x3328.size inb_S256x3584_S256x3328_0_0).toLoadRect f0

/-- The 13 column chunks, last first. -/
abbrev chunkOff (k : Fin 13) : Nat := 256 * (12 - k.val)

theorem chunkSlices (k : Fin 13) : S256x3328.Slices ![0, chunkOff k] S256x256 := by
  revert k; decide +kernel

theorem chunkInb (k : Fin 13) : ∀ a, (![0, chunkOff k] : Fin 2 → Nat) a + S256x256.size a ≤ S256x3328.size a := by
  revert k; decide +kernel

/-- One chunk of rounded and clipped offsets from the row's least entry. -/
def qChunk (X : FVec F S256x3328 .bf16) (k : Fin 13) : FVec F S256x256 .f32 :=
  minimumf (broadcast S256x256 (Scalar.ofBits .f32 0x41700000#32))
    (maximumf (broadcast S256x256 (Scalar.ofBits .f32 0x00000000#32))
      (roundeven (divf
        (subf (extf .f32 (extractStridedSlice S256x256 ![0, chunkOff k] X (chunkSlices k)) bitsLt_bf16_f32)
          (broadcastTo S256x256 (k1_pay59 X) broadcasts_S256x1_S256x256))
        (broadcastTo S256x256 (k1_pay60 X) broadcasts_S256x1_S256x256))))

/-- A chunk as the codes hold it. -/
def codeChunk (X : FVec F S256x3328 .bf16) (k : Fin 13) : IVec S256x256 8 := trunci 8 (fptosi 32 (qChunk X k)) natLt_8_32

/-- A chunk less eight, as the product reads it. -/
def lowChunk (X : FVec F S256x3328 .bf16) (k : Fin 13) : FVec F S256x256 .fp8e4m3 :=
  shapeCast S256x256 (truncf .fp8e4m3 (subf (qChunk X k) (broadcast S256x256 (Scalar.ofBits .f32 0x41000000#32)))
    bitsLt_fp8e4m3_f32) shapeCasts_S256x256_S256x256

theorem H5_eq (c : Dev nD) (M0 : Memref sig .tc .vmem S256x3584 .bf16) (f0 : Bf (F := F) c M0) :
    stepRun.sl.H5_13 c M0 f0 = List.ofFn fun k : Fin 13 =>
      (⟨Rect.unit (s := S256x3328) ![0, chunkOff k] S256x256.size (chunkInb k), codeChunk (baseCols c M0 f0) k⟩ : View.Piece (Elt F) S256x3328 .i8) := rfl

theorem H8_eq (c : Dev nD) (M0 : Memref sig .tc .vmem S256x3584 .bf16) (f0 : Bf (F := F) c M0) :
    stepRun.sl.H8_13 c M0 f0 = List.ofFn fun k : Fin 13 =>
      (⟨Rect.unit (s := S256x3328) ![0, chunkOff k] S256x256.size (chunkInb k), lowChunk (baseCols c M0 f0) k⟩ : View.Piece (Elt F) S256x3328 .fp8e4m3) := rfl

/-- The 19 tiles of the product's columns, last first. -/
abbrev tileNo (k : Fin 19) : Nat := 18 - k.val
abbrev tileOff (k : Fin 19) : Nat := 512 * tileNo k

theorem tileInb (k : Fin 19) : ∀ a, (![0, tileOff k] : Fin 2 → Nat) a + S256x512.size a ≤ S256x9728.size a := by
  revert k; decide +kernel

theorem slabInb (k : Fin 19) : ∀ a, (![tileNo k, 0, 0] : Fin 3 → Nat) a + S1x3328x512.size a ≤ S19x3328x512.size a := by
  revert k; decide +kernel

theorem rowInb (k : Fin 19) (r : Fin 3) : ∀ a, (![tileNo k, r.val, 0] : Fin 3 → Nat) a + S1x1x512.size a ≤ S19x8x512.size a := by
  revert k r; decide +kernel

/-- What a point stores in one tile of the product's block. -/
def yTile (c : Dev nD) (M1 : Memref sig .tc .vmem S19x3328x512 .fp8e4m3) (M2 : Memref sig .tc .vmem S19x8x512 .f32)
    (M3 : Memref sig .tc .vmem S256x9728 .bf16) (M8 : Memref sig .tc .vmem S256x3328 .fp8e4m3) (M9 : Memref sig .tc .vmem S256x256 .bf16)
    (M10 : Memref sig .tc .vmem S256x128 .f32) (M11 : Memref sig .tc .vmem S256x128 .f32) (M12 : Memref sig .tc .vmem S256x3328 .fp8e4m3)
    (M13 : Memref sig .tc .vmem S256x256 .bf16) (M14 : Memref sig .tc .vmem S256x128 .f32) (M15 : Memref sig .tc .vmem S256x128 .f32)
    (f1 : Bf (F := F) c M1) (f2 : Bf (F := F) c M2) (f3 : Bf (F := F) c M3) (f8 : Bf (F := F) c M8) (f9 : Bf (F := F) c M9)
    (f10 : Bf (F := F) c M10) (f11 : Bf (F := F) c M11) (k : Fin 19) : FVec F S256x512 .bf16 :=
  k1_pay124 (stepRun.sl.v349 c M10 M14 f10) (stepRun.sl.v350 c M11 M15 f11) (stepRun.sl.v351 c M8 M12 f8)
    (View.readAt (Elt F) M1.view (Rect.unit (s := S19x3328x512) ![tileNo k, 0, 0] S1x3328x512.size (slabInb k)).toLoadRect f1)
    (stepRun.sl.v355 c M9 M13 f9)
    (View.readAt (Elt F) M3.view (Rect.unit (s := S256x9728) ![0, tileOff k] S256x512.size (tileInb k)).toLoadRect f3)
    (View.readAt (Elt F) M2.view (Rect.unit (s := S19x8x512) ![tileNo k, 0, 0] S1x1x512.size (rowInb k 0)).toLoadRect f2)
    (View.readAt (Elt F) M2.view (Rect.unit (s := S19x8x512) ![tileNo k, 2, 0] S1x1x512.size (rowInb k 2)).toLoadRect f2)
    (View.readAt (Elt F) M2.view (Rect.unit (s := S19x8x512) ![tileNo k, 1, 0] S1x1x512.size (rowInb k 1)).toLoadRect f2)

theorem H4_eq (c : Dev nD) (M1 : Memref sig .tc .vmem S19x3328x512 .fp8e4m3) (M2 : Memref sig .tc .vmem S19x8x512 .f32)
    (M3 : Memref sig .tc .vmem S256x9728 .bf16) (M8 : Memref sig .tc .vmem S256x3328 .fp8e4m3) (M9 : Memref sig .tc .vmem S256x256 .bf16)
    (M10 : Memref sig .tc .vmem S256x128 .f32) (M11 : Memref sig .tc .vmem S256x128 .f32) (M12 : Memref sig .tc .vmem S256x3328 .fp8e4m3)
    (M13 : Memref sig .tc .vmem S256x256 .bf16) (M14 : Memref sig .tc .vmem S256x128 .f32) (M15 : Memref sig .tc .vmem S256x128 .f32)
    (f1 : Bf (F := F) c M1) (f2 : Bf (F := F) c M2) (f3 : Bf (F := F) c M3) (f8 : Bf (F := F) c M8) (f9 : Bf (F := F) c M9)
    (f10 : Bf (F := F) c M10) (f11 : Bf (F := F) c M11) :
    stepRun.sl.H4_19 c M1 M2 M3 M8 M9 M10 M11 M12 M13 M14 M15 f1 f2 f3 f8 f9 f10 f11 = List.ofFn fun k : Fin 19 =>
      (⟨Rect.unit (s := S256x9728) ![0, tileOff k] S256x512.size (tileInb k),
        yTile c M1 M2 M3 M8 M9 M10 M11 M12 M13 M14 M15 f1 f2 f3 f8 f9 f10 f11 k⟩ : View.Piece (Elt F) S256x9728 .bf16) := rfl

end Cert.Proof.KernelIdeal

end
-- ==== Proof.KernelIdeal.QuantPay.lean ====
module

public import proofs.«01_k».proof.Proof.Spec
public import proofs.«01_k».proof.Proof.KernelIdeal.Pieces

@[expose] public section

set_option maxRecDepth 16384

noncomputable section

/-! The main kernel's stored values at an entry, as functions of what it loaded. -/

namespace Cert.Proof.KernelIdeal

open Cert.KernelIdeal Cert.KernelIdeal.Gen Cert.Proof.Spec
open Idealize.ShloMosaic
open Idealize.ShloMosaic.TcCoe
open Idealize.SL.Sem

/-- A row's least entry, -/
theorem pay59_apply (X : FVec Ideal S256x3328 .bf16) (a : Fin 256) :
    k1_pay59 (F := Ideal) X (ix2 a 0) = rowMin fun j => X (ix2 a j) := by
  pointwise [k1_pay59, rowMin]
  rw [ofBits_inf_bf16]

/-- and its scale. -/
theorem pay60_apply (X : FVec Ideal S256x3328 .bf16) (a : Fin 256) :
    k1_pay60 (F := Ideal) X (ix2 a 0) = rowScale fun j => X (ix2 a j) := by
  pointwise [k1_pay60]
  rw [ofBits_ninf_bf16, pay59_apply]
  rfl

/-- An entry of a chunk of unconverted codes, -/
theorem qChunk_apply (X : FVec Ideal S256x3328 .bf16) (k : Fin 13) (a b : Fin 256) (j : Fin 3328) (hj : j.val = chunkOff k + b.val) :
    qChunk (F := Ideal) X k (ix2 a b) = rowQ (fun j => X (ix2 a j)) j := by
  pointwise [qChunk]
  rw [pay59_apply, pay60_apply, show (⟨chunkOff k + b.val, by omega⟩ : Fin 3328) = j from Fin.ext hj.symm]
  rfl

/-- of the codes as stored, -/
theorem codeChunk_apply (X : FVec Ideal S256x3328 .bf16) (k : Fin 13) (a b : Fin 256) (j : Fin 3328) (hj : j.val = chunkOff k + b.val) :
    codeChunk (F := Ideal) X k (ix2 a b) = codeBits (rowQ (fun j => X (ix2 a j)) j) :=
  congrArg codeBits (qChunk_apply X k a b j hj)

/-- and of the codes less eight. -/
theorem lowChunk_apply (X : FVec Ideal S256x3328 .bf16) (k : Fin 13) (a b : Fin 256) (j : Fin 3328) (hj : j.val = chunkOff k + b.val) :
    lowChunk (F := Ideal) X k (ix2 a b) = rowQ (fun j => X (ix2 a j)) j - ((8 : ℝ) : EReal) := by
  pointwise [lowChunk]
  rw [qChunk_apply X k a b j hj, ofBits_eight]

/-- A strip of scales. -/
theorem pay110_apply (v : FVec Ideal S256x1 .f32) (b : Fin 256) :
    k1_pay110 (F := Ideal) (k1_pay106 v) (ix2 0 b) = v (ix2 b 0) := by
  pointwise [k1_pay110, k1_pay106]
/-- A strip of zero points. -/
theorem pay111_apply (v : FVec Ideal S256x1 .f32) (b : Fin 256) :
    k1_pay111 (F := Ideal) (k1_pay107 v) (ix2 0 b) = v (ix2 b 0) := by
  pointwise [k1_pay111, k1_pay107]

/-- The first entry of a row of copied scales, -/
theorem pay108_apply (v : FVec Ideal S256x1 .f32) (a : Fin 256) (b : Fin 128) :
    k1_pay108 (F := Ideal) v (ix2 a b) = v (ix2 a 0) := by
  pointwise [k1_pay108, k1_pay106]
/-- and of copied zero points. -/
theorem pay109_apply (v : FVec Ideal S256x1 .f32) (a : Fin 256) (b : Fin 128) :
    k1_pay109 (F := Ideal) v (ix2 a b) = v (ix2 a 0) := by
  pointwise [k1_pay109, k1_pay107]

/-- An entry of a tile of the product. -/
theorem pay124_apply (s z : FVec Ideal S256x1 .f32) (q : FVec Ideal S256x3328 .fp8e4m3) (w : FVec Ideal S1x3328x512 .fp8e4m3)
    (o : FVec Ideal S256x256 .bf16) (wo : FVec Ideal S256x512 .bf16) (c0 c2 c1 : FVec Ideal S1x1x512 .f32) (a : Fin 256) (b : Fin 512) :
    k1_pay124 (F := Ideal) s z q w o wo c0 c2 c1 (ix2 a b)
      = s (ix2 a 0) * c2 (ix3 0 0 b) * (∑ x, q (ix2 a x) * w (ix3 0 x b) + c0 (ix3 0 0 b)) + z (ix2 a 0) * c1 (ix3 0 0 b)
        + ∑ x, o (ix2 a x) * wo (ix2 x b) := by
  pointwise [k1_pay124]

end Cert.Proof.KernelIdeal

end
-- ==== Proof.KernelIdeal.Prep.lean ====
module

public import proofs.«01_k».proof.Proof.Spec
public import proofs.«01_k».proof.Proof.KernelIdeal.Data0
public import Idealize.ShloMosaic.Lib.WritesUnit
public import Idealize.ShloMosaic.Lib.Pipeline.ValueKit

@[expose] public section

set_option maxRecDepth 16384

noncomputable section

/-! What the weight preparation stores, entry by entry. -/

namespace Cert.Proof.KernelIdeal

open Cert.KernelIdeal Cert.KernelIdeal.Gen Cert.Proof.Spec
open Idealize.ShloMosaic
open Idealize.ShloMosaic.TcCoe
open Idealize.SL.Sem

/-- A column of a block of packed weights. -/
abbrev pcol (w : IVec S1664x512 8) (b : Fin 512) : Fin 1664 → BitVec 8 := fun k => w (ix2 k b)

/-- A decoded weight. -/
theorem k0_pay2_apply (w : IVec S1664x512 8) (j : Fin 3328) (b : Fin 512) :
    k0_pay2 (F := Ideal) w (ix2 j b) = ((wt (pcol w b) j : ℝ) : EReal) := by
  pointwise [k0_pay2]
  unfold wt
  show (((BitVec.toInt _ : ℤ) : ℝ) : EReal) = _
  congr 2
  by_cases h : j.val % 2 = 0
  · rw [dif_pos (by omega), if_pos h]; exact lo_shift _
  · rw [dif_neg (by omega), if_neg h]; exact hi_shift _

theorem k0_pay3_apply (w : IVec S1664x512 8) (j : Fin 3328) (b : Fin 512) :
    k0_pay3 (F := Ideal) w (ix3 0 j b) = ((wt (pcol w b) j : ℝ) : EReal) := by
  pointwise [k0_pay3]
  exact k0_pay2_apply w j b

/-- The column's sum, -/
theorem k0_pay4_apply (w : IVec S1664x512 8) (b : Fin 512) :
    k0_pay4 (F := Ideal) w (ix2 0 b) = ((wtSum (pcol w b) : ℝ) : EReal) := by
  pointwise [k0_pay4]
  simp only [k0_pay2_apply]
  exact coe_wtSum _

/-- eight times it, -/
theorem k0_pay5_apply (w : IVec S1664x512 8) (b : Fin 512) :
    k0_pay5 (F := Ideal) w (ix3 0 0 b) = ((wtSum (pcol w b) : ℝ) : EReal) * ((8 : ℝ) : EReal) := by
  pointwise [k0_pay5]
  rw [k0_pay4_apply, ofBits_eight]

/-- the scaled sum -/
theorem k0_pay6_apply (w : IVec S1664x512 8) (s : FVec Ideal S1x512 .f32) (b : Fin 512) :
    k0_pay6 (F := Ideal) w s (ix3 0 0 b) = s (ix2 0 b) * ((wtSum (pcol w b) : ℝ) : EReal) := by
  pointwise [k0_pay6]
  rw [k0_pay4_apply]

/-- and the scale. -/
theorem k0_pay1_apply (s : FVec Ideal S1x512 .f32) (b : Fin 512) : k0_pay1 (F := Ideal) s (ix3 0 0 b) = s (ix2 0 b) := by
  pointwise [k0_pay1]

variable (c : Dev nD) (M0 : Memref sig .tc .vmem S1664x512 .i8) (h0 : M0.IsWhole) (M1 : Memref sig .tc .vmem S1x512 .f32) (h1 : M1.IsWhole)
  (X0 : S1664x512.Idx → Elt Ideal .i8) (X1 : S1x512.Idx → Elt Ideal .f32)

theorem load0 : View.readAt (Elt Ideal) M0.view (Rect.unit (s := S1664x512) ![0, 0] S1664x512.size inb_S1664x512_S1664x512_0_0).toLoadRect (h0.unread X0) = X0 := by
  show View.ld (M0.view.read (Elt Ideal) (h0.unread X0)) _ = _
  rw [h0.read_unread]
  exact View.ld_unit_lit (S := S1664x512) _ X0 fun d => by match d with | 0 => rfl | 1 => rfl
theorem load1 : View.readAt (Elt Ideal) M1.view (Rect.unit (s := S1x512) ![0, 0] S1x512.size inb_S1x512_S1x512_0_0).toLoadRect (h1.unread X1) = X1 := by
  show View.ld (M1.view.read (Elt Ideal) (h1.unread X1)) _ = _
  rw [h1.read_unread]
  exact View.ld_unit_lit (S := S1x512) _ X1 fun d => by match d with | 0 => rfl | 1 => rfl

/-- What one store over a whole buffer leaves. -/
theorem read_whole {S : Shape} {e : EltTy} (M : Memref sig .tc .vmem S e) {off : Fin S.rank → ℕ} (hz : off = fun _ => 0)
    (inb : ∀ a, off a + S.size a ≤ S.size a) (P : S.Idx → Elt Ideal e) :
    M.view.read (Elt Ideal) (M.view.writes (Elt Ideal) M.view.junk [(⟨Rect.unit off S.size inb, P⟩ : View.Piece (Elt Ideal) S e)]) = P := by
  rw [View.read_writes_junk_eq_canon]
  exact View.canon_unit_zero hz inb P

/-- The decoded weights' block, -/
theorem w8Of_eq (M2 : Memref sig .tc .vmem S1x3328x512 .fp8e4m3) :
    w8Of (F := Ideal) c M0 M2 (h0.unread X0) = k0_pay3 (F := Ideal) X0 := by
  refine Eq.trans ?_ (congrArg (k0_pay3 (F := Ideal)) (load0 M0 h0 X0))
  exact read_whole M2 (by decide) inb_S1x3328x512_S1x3328x512_0_0_0 _
/-- entry by entry. -/
theorem w8Of_apply (M2 : Memref sig .tc .vmem S1x3328x512 .fp8e4m3) (j : Fin 3328) (b : Fin 512) :
    w8Of (F := Ideal) c M0 M2 (h0.unread X0) (ix3 0 j b) = ((wt (pcol X0 b) j : ℝ) : EReal) :=
  (congrFun (w8Of_eq c M0 h0 X0 M2) _).trans (k0_pay3_apply X0 j b)

/-- The three stored rows of the column sums' block, whatever the others hold. -/
theorem colOf_row2 (M3 : Memref sig .tc .vmem S1x8x512 .f32) (f3 : Bf (F := Ideal) c M3) (b : Fin 512) :
    colOf (F := Ideal) c M0 M1 M3 (h0.unread X0) (h1.unread X1) f3 (ix3 0 2 b) = X1 (ix2 0 b) := by
  unfold colOf colRows
  refine (View.read_writes_cons_unit_of_mem M3.view f3 _ _ _ (ix3 0 2 b) (ix3 0 0 b) rfl
    (fun d => by match d with | 0 => rfl | 1 => rfl | 2 => exact (Nat.zero_add _).symm)).trans ?_
  rw [load1 M1 h1 X1]
  exact k0_pay1_apply X1 b
theorem colOf_row1 (M3 : Memref sig .tc .vmem S1x8x512 .f32) (f3 : Bf (F := Ideal) c M3) (b : Fin 512) :
    colOf (F := Ideal) c M0 M1 M3 (h0.unread X0) (h1.unread X1) f3 (ix3 0 1 b) = X1 (ix2 0 b) * ((wtSum (pcol X0 b) : ℝ) : EReal) := by
  unfold colOf colRows
  refine (View.read_writes_cons_unit_of_not_mem M3.view f3 _ _ _ (ix3 0 1 b) rfl 1 (.inl (show (1 : ℕ) < 2 by decide))).trans ?_
  refine (View.read_writes_cons_unit_of_mem M3.view f3 _ _ _ (ix3 0 1 b) (ix3 0 0 b) rfl
    (fun d => by match d with | 0 => rfl | 1 => rfl | 2 => exact (Nat.zero_add _).symm)).trans ?_
  rw [load0 M0 h0 X0, load1 M1 h1 X1]
  exact k0_pay6_apply X0 X1 b
theorem colOf_row0 (M3 : Memref sig .tc .vmem S1x8x512 .f32) (f3 : Bf (F := Ideal) c M3) (b : Fin 512) :
    colOf (F := Ideal) c M0 M1 M3 (h0.unread X0) (h1.unread X1) f3 (ix3 0 0 b) = ((wtSum (pcol X0 b) : ℝ) : EReal) * ((8 : ℝ) : EReal) := by
  unfold colOf colRows
  refine (View.read_writes_cons_unit_of_not_mem M3.view f3 _ _ _ (ix3 0 0 b) rfl 1 (.inl (show (0 : ℕ) < 2 by decide))).trans ?_
  refine (View.read_writes_cons_unit_of_not_mem M3.view f3 _ _ _ (ix3 0 0 b) rfl 1 (.inl (show (0 : ℕ) < 1 by decide))).trans ?_
  refine (View.read_writes_cons_unit_of_mem M3.view f3 _ _ _ (ix3 0 0 b) (ix3 0 0 b) rfl
    (fun d => by match d with | 0 => rfl | 1 => rfl | 2 => exact (Nat.zero_add _).symm)).trans ?_
  rw [load0 M0 h0 X0]
  exact k0_pay5_apply X0 b

end Cert.Proof.KernelIdeal

end
-- ==== Proof.KernelIdeal.Quant.lean ====
module

public import proofs.«01_k».proof.Proof.Spec
public import proofs.«01_k».proof.Proof.KernelIdeal.QuantPay
public import proofs.«01_k».proof.Proof.KernelIdeal.Prep
public import Idealize.ShloMosaic.Lib.WritesUnit
public import Idealize.ShloMosaic.Lib.Pipeline.ValueKit

@[expose] public section

set_option maxRecDepth 16384

noncomputable section

/-! What the main kernel's quantisation stores, entry by entry. -/

namespace Cert.Proof.KernelIdeal

open Cert.KernelIdeal Cert.KernelIdeal.Gen Cert.Proof.Spec
open Idealize.ShloMosaic
open Idealize.ShloMosaic.TcCoe
open Idealize.SL.Sem

/-- A row of a block of activations that is quantised, -/
abbrev xrow (X : S256x3584.Idx → EReal) (a : Fin 256) : Fin 3328 → EReal := fun j => X (ix2 a ⟨j.val, by omega⟩)
/-- and the outlier columns of the row. -/
abbrev orow (X : S256x3584.Idx → EReal) (a : Fin 256) : Fin 256 → EReal := fun j => X (ix2 a ⟨3328 + j.val, by omega⟩)

variable (c : Dev nD) (M0 : Memref sig .tc .vmem S256x3584 .bf16) (h0 : M0.IsWhole) (X0 : S256x3584.Idx → Elt Ideal .bf16)

theorem baseCols_apply (a : Fin 256) (j : Fin 3328) :
    baseCols (F := Ideal) c M0 (h0.unread X0) (ix2 a j) = xrow X0 a j := by
  show View.ld (M0.view.read (Elt Ideal) (h0.unread X0)) _ _ = _
  rw [h0.read_unread]
  refine View.ld_unit_apply_of X0 ![0, 0] S256x3328.size inb_S256x3584_S256x3328_0_0 (ix2 a j) (ix2 a ⟨j.val, by omega⟩) fun d => ?_
  match d with
  | 0 => exact (Nat.zero_add _).symm
  | 1 => exact (Nat.zero_add _).symm

theorem baseCols_row (a : Fin 256) : (fun j => baseCols (F := Ideal) c M0 (h0.unread X0) (ix2 a j)) = xrow X0 a :=
  funext fun j => baseCols_apply c M0 h0 X0 a j

theorem chunk_cover (j : Fin 3328) : ∃ k : Fin 13, chunkOff k ≤ j.val ∧ j.val < chunkOff k + 256 :=
  ⟨⟨12 - j.val / 256, by omega⟩, by unfold chunkOff; dsimp only; omega, by unfold chunkOff; dsimp only; omega⟩

/-- What the list of chunks leaves at an entry, when the chunks agree with one function of the entry. -/
theorem canon_chunks {e : EltTy} (P : Fin 13 → S256x256.Idx → Elt Ideal e) (G : Fin 256 → Fin 3328 → Elt Ideal e)
    (h : ∀ k a b j, j.val = chunkOff k + b.val → P k (ix2 a b) = G a j) (a : Fin 256) (j : Fin 3328) :
    View.canon (List.ofFn fun k : Fin 13 =>
      (⟨Rect.unit (s := S256x3328) ![0, chunkOff k] S256x256.size (chunkInb k), P k⟩ : View.Piece (Elt Ideal) S256x3328 e)) (ix2 (n0 := 256) (n1 := 3328) a j) = G a j := by
  refine View.canon_ofFn_unit_eq_of_forall (S := S256x3328) (fun k : Fin 13 => ![0, chunkOff k]) S256x256.size chunkInb P (ix2 (n0 := 256) (n1 := 3328) a j) (G a j) ?_ ?_
  · obtain ⟨k, h1, h2⟩ := chunk_cover j
    refine ⟨k, fun d => ?_⟩
    match d with
    | 0 => exact ⟨Nat.zero_le _, by show a.val < 0 + 256; omega⟩
    | 1 => exact ⟨h1, h2⟩
  · intro k x hx
    have e0 : a.val = 0 + (x 0).val := hx 0
    have e1 : j.val = chunkOff k + (x 1).val := hx 1
    rw [eq_ix2 (n0 := 256) (n1 := 256) x, h k (x 0) (x 1) j e1]
    congr 1
    exact Fin.ext (by omega)

/-- The codes that a point stores, -/
theorem codesOf_apply (M5 : Memref sig .tc .vmem S256x3328 .i8) (a : Fin 256) (j : Fin 3328) :
    codesOf (F := Ideal) c M0 M5 (h0.unread X0) (ix2 a j) = codeBits (rowQ (xrow X0 a) j) := by
  unfold codesOf
  rw [View.read_writes_junk_apply_eq_canon, H5_eq]
  refine canon_chunks (e := .i8) (codeChunk (baseCols c M0 (h0.unread X0))) (fun a j => codeBits (rowQ (xrow X0 a) j)) (fun k a b j hj => ?_) a j
  rw [codeChunk_apply _ k a b j hj, baseCols_row]

/-- and the codes less eight that it keeps. -/
theorem qOf_apply (M8 : Memref sig .tc .vmem S256x3328 .fp8e4m3) (a : Fin 256) (j : Fin 3328) :
    M8.view.read (Elt Ideal) (qOf (F := Ideal) c M0 M8 (h0.unread X0)) (ix2 a j) = rowQ (xrow X0 a) j - ((8 : ℝ) : EReal) := by
  unfold qOf
  rw [View.read_writes_junk_apply_eq_canon, H8_eq]
  refine canon_chunks (e := .fp8e4m3) (lowChunk (baseCols c M0 (h0.unread X0))) (fun a j => rowQ (xrow X0 a) j - ((8 : ℝ) : EReal)) (fun k a b j hj => ?_) a j
  rw [lowChunk_apply _ k a b j hj, baseCols_row]

/-- The kept scales, -/
theorem sOf_eq (M10 : Memref sig .tc .vmem S256x128 .f32) (f0 : Bf (F := Ideal) c M0) :
    M10.view.read (Elt Ideal) (sOf (F := Ideal) c M0 M10 f0) = k1_pay108 (F := Ideal) (k1_pay60 (baseCols c M0 f0)) :=
  read_whole M10 (by decide) inb_S256x128_S256x128_0_0 _
theorem sOf_apply (M10 : Memref sig .tc .vmem S256x128 .f32) (a : Fin 256) (b : Fin 128) :
    M10.view.read (Elt Ideal) (sOf (F := Ideal) c M0 M10 (h0.unread X0)) (ix2 a b) = rowScale (xrow X0 a) := by
  rw [sOf_eq, pay108_apply, pay60_apply, baseCols_row]

/-- the kept zero points, -/
theorem zOf_eq (M11 : Memref sig .tc .vmem S256x128 .f32) (f0 : Bf (F := Ideal) c M0) :
    M11.view.read (Elt Ideal) (zOf (F := Ideal) c M0 M11 f0) = k1_pay109 (F := Ideal) (k1_pay59 (baseCols c M0 f0)) :=
  read_whole M11 (by decide) inb_S256x128_S256x128_0_0 _
theorem zOf_apply (M11 : Memref sig .tc .vmem S256x128 .f32) (a : Fin 256) (b : Fin 128) :
    M11.view.read (Elt Ideal) (zOf (F := Ideal) c M0 M11 (h0.unread X0)) (ix2 a b) = rowMin (xrow X0 a) := by
  rw [zOf_eq, pay109_apply, pay59_apply, baseCols_row]

/-- and the kept outlier columns. -/
theorem oOf_eq (M9 : Memref sig .tc .vmem S256x256 .bf16) (f0 : Bf (F := Ideal) c M0) :
    M9.view.read (Elt Ideal) (oOf (F := Ideal) c M0 M9 f0)
      = k1_pay105 (F := Ideal) (View.readAt (Elt Ideal) M0.view (Rect.unit (s := S256x3584) ![0, 3328] S256x256.size inb_S256x3584_S256x256_0_3328).toLoadRect f0) :=
  read_whole M9 (by decide) inb_S256x256_S256x256_0_0 _
theorem oOf_apply (M9 : Memref sig .tc .vmem S256x256 .bf16) (a : Fin 256) (b : Fin 256) :
    M9.view.read (Elt Ideal) (oOf (F := Ideal) c M0 M9 (h0.unread X0)) (ix2 a b) = orow X0 a b := by
  rw [oOf_eq]
  pointwise [k1_pay105]
  show View.ld (M0.view.read (Elt Ideal) (h0.unread X0)) _ _ = _
  rw [h0.read_unread]
  refine View.ld_unit_apply_of X0 ![0, 3328] S256x256.size inb_S256x3584_S256x256_0_3328 (ix2 a b) (ix2 a ⟨3328 + b.val, by omega⟩) fun d => ?_
  match d with
  | 0 => exact (Nat.zero_add _).symm
  | 1 => rfl

/-- The scales' array after a point: the point's strip holds the scales of its rows, the rest is as it was. -/
theorem scaleOf_apply (i : grid1.Coords) (M6 : Memref sig .tc .vmem S12x1536 .f32) (f6 : Bf (F := Ideal) c M6) (y : S12x1536.Idx) :
    scaleOf (F := Ideal) c i M0 M6 (h0.unread X0) f6 y
      = if h : ∀ d, k1_off2 i d ≤ (y d).val ∧ (y d).val < k1_off2 i d + S1x256.size d
        then rowScale (xrow X0 ⟨(y 1).val - k1_off2 i 1, by have : (y 1).val < k1_off2 i 1 + 256 := (h 1).2; omega⟩)
        else M6.view.read (Elt Ideal) f6 y := by
  unfold scaleOf
  refine (View.read_writes_cons_unit M6.view f6 (offInb i) (k1_pay110 (stepRun.sl.r_13 c M0 (h0.unread X0))) [] y rfl).trans ?_
  refine dite_congr rfl (fun h => ?_) fun _ => rfl
  rw [eq_ix2 (n0 := 1) (n1 := 256) (Rect.unitLocal (s := S12x1536) (off := k1_off2 i) (size := S1x256.size) y h)]
  refine (congrArg _ (congrArg₂ (ix2 (n0 := 1) (n1 := 256)) (Subsingleton.elim _ (0 : Fin 1)) rfl)).trans ?_
  refine (pay110_apply (stepRun.sl.r_2 c M0 (h0.unread X0)) _).trans ?_
  refine (pay60_apply (baseCols c M0 (h0.unread X0)) _).trans ?_
  exact congrArg rowScale (baseCols_row c M0 h0 X0 _)

/-- The zero points' array after a point, likewise. -/
theorem zeroOf_apply (i : grid1.Coords) (M7 : Memref sig .tc .vmem S12x1536 .f32) (f7 : Bf (F := Ideal) c M7) (y : S12x1536.Idx) :
    zeroOf (F := Ideal) c i M0 M7 (h0.unread X0) f7 y
      = if h : ∀ d, k1_off2 i d ≤ (y d).val ∧ (y d).val < k1_off2 i d + S1x256.size d
        then rowMin (xrow X0 ⟨(y 1).val - k1_off2 i 1, by have : (y 1).val < k1_off2 i 1 + 256 := (h 1).2; omega⟩)
        else M7.view.read (Elt Ideal) f7 y := by
  unfold zeroOf
  refine (View.read_writes_cons_unit M7.view f7 (offInb i) (k1_pay111 (stepRun.sl.r_14 c M0 (h0.unread X0))) [] y rfl).trans ?_
  refine dite_congr rfl (fun h => ?_) fun _ => rfl
  rw [eq_ix2 (n0 := 1) (n1 := 256) (Rect.unitLocal (s := S12x1536) (off := k1_off2 i) (size := S1x256.size) y h)]
  refine (congrArg _ (congrArg₂ (ix2 (n0 := 1) (n1 := 256)) (Subsingleton.elim _ (0 : Fin 1)) rfl)).trans ?_
  refine (pay111_apply (stepRun.sl.r_1 c M0 (h0.unread X0)) _).trans ?_
  refine (pay59_apply (baseCols c M0 (h0.unread X0)) _).trans ?_
  exact congrArg rowMin (baseCols_row c M0 h0 X0 _)

end Cert.Proof.KernelIdeal

end
-- ==== Proof.KernelIdeal.Tile.lean ====
module

public import proofs.«01_k».proof.Proof.KernelIdeal.Quant
public import proofs.«01_k».proof.Proof.KernelIdeal.Data1

@[expose] public section

set_option maxRecDepth 16384

noncomputable section

/-! What a later grid point stores in the product's block, entry by entry. -/

namespace Cert.Proof.KernelIdeal

open Cert.KernelIdeal Cert.KernelIdeal.Gen Cert.Proof.Spec
open Idealize.ShloMosaic
open Idealize.ShloMosaic.TcCoe
open Idealize.SL.Sem

/-- A load from a buffer that one store filled. -/
theorem readCov_whole {S : Shape} {e : EltTy} (M : Memref sig .tc .vmem S e) {off : Fin S.rank → ℕ} (hz : off = fun _ => 0)
    (inb : ∀ a, off a + S.size a ≤ S.size a) (P : S.Idx → Elt Ideal e) (off2 size2 : Fin S.rank → ℕ) (inb2 : ∀ a, off2 a + size2 a ≤ S.size a)
    (x : (Rect.unit off2 size2 inb2).shape.Idx) (i : S.Idx) (hi : ∀ a, (i a).val = off2 a + (x a).val) :
    M.view.readCov [(⟨Rect.unit off S.size inb, P⟩ : View.Piece (Elt Ideal) S e)] (Rect.unit off2 size2 inb2).toLoadRect x = P i := by
  rw [View.readCov_eq_canon', View.canon_unit_zero hz]
  exact View.ld_unit_apply_of P off2 size2 inb2 x i hi

theorem pay55_apply (v : FVec Ideal S256x3328 .fp8e4m3) (a : Fin 256) (b : Fin 3328) : k1_pay55 (F := Ideal) v (ix2 a b) = v (ix2 a b) := by
  pointwise [k1_pay55]
theorem pay56_apply (v : FVec Ideal S256x256 .bf16) (a b : Fin 256) : k1_pay56 (F := Ideal) v (ix2 a b) = v (ix2 a b) := by
  pointwise [k1_pay56]
theorem pay57_apply (v : FVec Ideal S256x128 .f32) (a : Fin 256) (b : Fin 128) : k1_pay57 (F := Ideal) v (ix2 a b) = v (ix2 a b) := by
  pointwise [k1_pay57]
theorem pay58_apply (v : FVec Ideal S256x128 .f32) (a : Fin 256) (b : Fin 128) : k1_pay58 (F := Ideal) v (ix2 a b) = v (ix2 a b) := by
  pointwise [k1_pay58]

theorem at_zero {n m : ℕ} {o : Fin 2 → ℕ} (ho : o = ![0, 0]) (a : Fin n) (b : Fin m) (d : Fin 2) :
    ((ix2 a b : Shape.Idx ⟨2, ![n, m]⟩) d).val = o d + ((ix2 a b : Shape.Idx ⟨2, ![n, m]⟩) d).val := by
  subst ho
  match d with
  | 0 => exact (Nat.zero_add _).symm
  | 1 => exact (Nat.zero_add _).symm

variable (c : Dev nD)

/-- The copies that the product reads hold what the kept buffers hold: the scales, -/
theorem v349_apply (M10 M14 : Memref sig .tc .vmem S256x128 .f32) (f : Bf (F := Ideal) c M10) (a : Fin 256) :
    stepRun.sl.v349 (F := Ideal) c M10 M14 f (ix2 a 0) = M10.view.read (Elt Ideal) f (ix2 a 0) := by
  refine (readCov_whole M14 (by decide) inb_S256x128_S256x128_0_0 _ _ _ _ (ix2 a 0) (ix2 a 0) (fun d => by
    match d with
    | 0 => exact (Nat.zero_add _).symm
    | 1 => rfl)).trans ((pay57_apply _ a 0).trans ?_)
  exact View.ld_unit_apply_of (M10.view.read (Elt Ideal) f) _ _ _ (ix2 a 0) (ix2 a 0) (at_zero rfl a 0)
/-- the zero points, -/
theorem v350_apply (M11 M15 : Memref sig .tc .vmem S256x128 .f32) (f : Bf (F := Ideal) c M11) (a : Fin 256) :
    stepRun.sl.v350 (F := Ideal) c M11 M15 f (ix2 a 0) = M11.view.read (Elt Ideal) f (ix2 a 0) := by
  refine (readCov_whole M15 (by decide) inb_S256x128_S256x128_0_0 _ _ _ _ (ix2 a 0) (ix2 a 0) (fun d => by
    match d with
    | 0 => exact (Nat.zero_add _).symm
    | 1 => rfl)).trans ((pay58_apply _ a 0).trans ?_)
  exact View.ld_unit_apply_of (M11.view.read (Elt Ideal) f) _ _ _ (ix2 a 0) (ix2 a 0) (at_zero rfl a 0)
/-- the codes less eight -/
theorem v351_apply (M8 M12 : Memref sig .tc .vmem S256x3328 .fp8e4m3) (f : Bf (F := Ideal) c M8) (a : Fin 256) (j : Fin 3328) :
    stepRun.sl.v351 (F := Ideal) c M8 M12 f (ix2 a j) = M8.view.read (Elt Ideal) f (ix2 a j) := by
  refine (readCov_whole M12 (by decide) inb_S256x3328_S256x3328_0_0 _ _ _ _ (ix2 a j) (ix2 a j) (at_zero rfl a j)).trans ((pay55_apply _ a j).trans ?_)
  exact View.ld_unit_apply_of (M8.view.read (Elt Ideal) f) _ _ _ (ix2 a j) (ix2 a j) (at_zero rfl a j)
/-- and the outlier columns. -/
theorem v355_apply (M9 M13 : Memref sig .tc .vmem S256x256 .bf16) (f : Bf (F := Ideal) c M9) (a b : Fin 256) :
    stepRun.sl.v355 (F := Ideal) c M9 M13 f (ix2 a b) = M9.view.read (Elt Ideal) f (ix2 a b) := by
  refine (readCov_whole M13 (by decide) inb_S256x256_S256x256_0_0 _ _ _ _ (ix2 a b) (ix2 a b) (at_zero rfl a b)).trans ((pay56_apply _ a b).trans ?_)
  exact View.ld_unit_apply_of (M9.view.read (Elt Ideal) f) _ _ _ (ix2 a b) (ix2 a b) (at_zero rfl a b)

/-- The tile of a column, and the column within it. -/
abbrev tileIx (n : Fin 9728) : Fin 19 := ⟨n.val / 512, by omega⟩
abbrev tileCol (n : Fin 9728) : Fin 512 := ⟨n.val % 512, by omega⟩

/-- One entry of the product's block, from the decoded weights, the column sums, the outlier weights and the row. -/
def entry (X1 : S19x3328x512.Idx → EReal) (X2 : S19x8x512.Idx → EReal) (X3 : S256x9728.Idx → EReal)
    (g : Fin 3328 → EReal) (o : Fin 256 → EReal) (n : Fin 9728) : EReal :=
  rowScale g * X2 (ix3 (tileIx n) 2 (tileCol n))
      * (∑ j, (rowQ g j - ((8 : ℝ) : EReal)) * X1 (ix3 (tileIx n) j (tileCol n)) + X2 (ix3 (tileIx n) 0 (tileCol n)))
    + rowMin g * X2 (ix3 (tileIx n) 1 (tileCol n)) + ∑ x, o x * X3 (ix2 x n)

variable (M1 : Memref sig .tc .vmem S19x3328x512 .fp8e4m3) (h1 : M1.IsWhole) (M2 : Memref sig .tc .vmem S19x8x512 .f32) (h2 : M2.IsWhole)
  (M3 : Memref sig .tc .vmem S256x9728 .bf16) (h3 : M3.IsWhole) (M4 : Memref sig .tc .vmem S256x9728 .bf16)
  (M8 : Memref sig .tc .vmem S256x3328 .fp8e4m3) (M9 : Memref sig .tc .vmem S256x256 .bf16) (M10 M11 : Memref sig .tc .vmem S256x128 .f32)
  (M12 : Memref sig .tc .vmem S256x3328 .fp8e4m3) (M13 : Memref sig .tc .vmem S256x256 .bf16) (M14 M15 : Memref sig .tc .vmem S256x128 .f32)
  (X1 : S19x3328x512.Idx → Elt Ideal .fp8e4m3) (X2 : S19x8x512.Idx → Elt Ideal .f32) (X3 : S256x9728.Idx → Elt Ideal .bf16)
  (f8 : Bf (F := Ideal) c M8) (f9 : Bf (F := Ideal) c M9) (f10 : Bf (F := Ideal) c M10) (f11 : Bf (F := Ideal) c M11)

/-- A decoded weight as a tile loads it, -/
theorem load_w8 (k : Fin 19) (n : Fin 9728) (hT : n.val / 512 = tileNo k) (j : Fin 3328) :
    View.readAt (Elt Ideal) M1.view (Rect.unit (s := S19x3328x512) ![tileNo k, 0, 0] S1x3328x512.size (slabInb k)).toLoadRect (h1.unread X1) (ix3 0 j (tileCol n))
      = X1 (ix3 (tileIx n) j (tileCol n)) := by
  show View.ld (M1.view.read (Elt Ideal) (h1.unread X1)) _ _ = _
  rw [h1.read_unread]
  refine View.ld_unit_apply_of X1 ![tileNo k, 0, 0] S1x3328x512.size (slabInb k) (ix3 0 j (tileCol n)) (ix3 (tileIx n) j (tileCol n)) fun d => ?_
  match d with
  | 0 => exact hT
  | 1 => exact (Nat.zero_add _).symm
  | 2 => exact (Nat.zero_add _).symm
/-- a stored column sum -/
theorem load_col (k : Fin 19) (n : Fin 9728) (hT : n.val / 512 = tileNo k) (r : ℕ) (hr : r < 8)
    (inb : ∀ a, (![tileNo k, r, 0] : Fin 3 → ℕ) a + S1x1x512.size a ≤ S19x8x512.size a) :
    View.readAt (Elt Ideal) M2.view (Rect.unit (s := S19x8x512) ![tileNo k, r, 0] S1x1x512.size inb).toLoadRect (h2.unread X2) (ix3 0 0 (tileCol n))
      = X2 (ix3 (tileIx n) ⟨r, hr⟩ (tileCol n)) := by
  show View.ld (M2.view.read (Elt Ideal) (h2.unread X2)) _ _ = _
  rw [h2.read_unread]
  refine View.ld_unit_apply_of X2 ![tileNo k, r, 0] S1x1x512.size inb (ix3 0 0 (tileCol n)) (ix3 (tileIx n) ⟨r, hr⟩ (tileCol n)) fun d => ?_
  match d with
  | 0 => exact hT
  | 1 => rfl
  | 2 => exact (Nat.zero_add _).symm
/-- and an outlier weight. -/
theorem load_wo (k : Fin 19) (n : Fin 9728) (hT : n.val / 512 = tileNo k) (x : Fin 256) :
    View.readAt (Elt Ideal) M3.view (Rect.unit (s := S256x9728) ![0, tileOff k] S256x512.size (tileInb k)).toLoadRect (h3.unread X3) (ix2 x (tileCol n))
      = X3 (ix2 x n) := by
  show View.ld (M3.view.read (Elt Ideal) (h3.unread X3)) _ _ = _
  rw [h3.read_unread]
  refine View.ld_unit_apply_of X3 ![0, tileOff k] S256x512.size (tileInb k) (ix2 x (tileCol n)) (ix2 x n) fun d => ?_
  match d with
  | 0 => exact (Nat.zero_add _).symm
  | 1 => show n.val = 512 * tileNo k + n.val % 512; omega

/-- A tile's entry, from what its operands hold. -/
theorem pay124_entry (s z : FVec Ideal S256x1 .f32) (q : FVec Ideal S256x3328 .fp8e4m3) (w : FVec Ideal S1x3328x512 .fp8e4m3)
    (o : FVec Ideal S256x256 .bf16) (wo : FVec Ideal S256x512 .bf16) (c0 c2 c1 : FVec Ideal S1x1x512 .f32) (a : Fin 256) (n : Fin 9728)
    (Y1 : S19x3328x512.Idx → EReal) (Y2 : S19x8x512.Idx → EReal) (Y3 : S256x9728.Idx → EReal) (g : Fin 3328 → EReal) (o' : Fin 256 → EReal)
    (hs : s (ix2 a 0) = rowScale g) (hz : z (ix2 a 0) = rowMin g) (hq : ∀ x, q (ix2 a x) = rowQ g x - ((8 : ℝ) : EReal))
    (hw : ∀ x, w (ix3 0 x (tileCol n)) = Y1 (ix3 (tileIx n) x (tileCol n))) (ho : ∀ x, o (ix2 a x) = o' x)
    (hwo : ∀ x, wo (ix2 x (tileCol n)) = Y3 (ix2 x n)) (hc0 : c0 (ix3 0 0 (tileCol n)) = Y2 (ix3 (tileIx n) ⟨0, by decide⟩ (tileCol n)))
    (hc2 : c2 (ix3 0 0 (tileCol n)) = Y2 (ix3 (tileIx n) ⟨2, by decide⟩ (tileCol n))) (hc1 : c1 (ix3 0 0 (tileCol n)) = Y2 (ix3 (tileIx n) ⟨1, by decide⟩ (tileCol n))) :
    k1_pay124 (F := Ideal) s z q w o wo c0 c2 c1 (ix2 a (tileCol n)) = entry Y1 Y2 Y3 g o' n := by
  rw [pay124_apply, hs, hz, hc0, hc1, hc2]
  simp only [hq, hw, ho, hwo]
  rfl

theorem tile_cover (n : Fin 9728) : ∃ k : Fin 19, tileOff k ≤ n.val ∧ n.val < tileOff k + 512 :=
  ⟨⟨18 - n.val / 512, by omega⟩, by show 512 * (18 - (18 - n.val / 512)) ≤ n.val; omega, by show n.val < 512 * (18 - (18 - n.val / 512)) + 512; omega⟩

/-- What the list of tiles leaves at an entry, when the tiles agree with one function of the entry. -/
theorem canon_tiles {e : EltTy} (P : Fin 19 → S256x512.Idx → Elt Ideal e) (G : Fin 256 → Fin 9728 → Elt Ideal e)
    (h : ∀ k a n, n.val / 512 = tileNo k → P k (ix2 a (tileCol n)) = G a n) (a : Fin 256) (n : Fin 9728) :
    View.canon (List.ofFn fun k : Fin 19 =>
      (⟨Rect.unit (s := S256x9728) ![0, tileOff k] S256x512.size (tileInb k), P k⟩ : View.Piece (Elt Ideal) S256x9728 e)) (ix2 (n0 := 256) (n1 := 9728) a n) = G a n := by
  refine View.canon_ofFn_unit_eq_of_forall (S := S256x9728) (fun k : Fin 19 => ![0, tileOff k]) S256x512.size tileInb P (ix2 (n0 := 256) (n1 := 9728) a n) (G a n) ?_ ?_
  · obtain ⟨k, h1, h2⟩ := tile_cover n
    refine ⟨k, fun d => ?_⟩
    match d with
    | 0 => exact ⟨Nat.zero_le _, by show a.val < 0 + 256; omega⟩
    | 1 => exact ⟨h1, h2⟩
  · intro k x hx
    have e0 : a.val = 0 + (x 0).val := hx 0
    have e1 : n.val = 512 * tileNo k + (x 1).val := hx 1
    have l1 : (x 1).val < 512 := (x 1).isLt
    have hx' : x = ix2 (n0 := 256) (n1 := 512) a (tileCol n) := by
      rw [eq_ix2 (n0 := 256) (n1 := 512) x]
      congr 1
      · exact Fin.ext (by omega)
      · exact Fin.ext (by show (x 1).val = n.val % 512; omega)
    rw [hx']
    exact h k a n (by omega)

/-- The rows that the kept buffers hold. -/
structure Keeps (g : Fin 256 → Fin 3328 → EReal) (o : Fin 256 → Fin 256 → EReal) : Prop where
  codes : ∀ a j, M8.view.read (Elt Ideal) f8 (ix2 a j) = rowQ (g a) j - ((8 : ℝ) : EReal)
  outliers : ∀ a b, M9.view.read (Elt Ideal) f9 (ix2 a b) = o a b
  scale : ∀ a b, M10.view.read (Elt Ideal) f10 (ix2 a b) = rowScale (g a)
  zero : ∀ a b, M11.view.read (Elt Ideal) f11 (ix2 a b) = rowMin (g a)

variable (g : Fin 256 → Fin 3328 → EReal) (o : Fin 256 → Fin 256 → EReal)

/-- An entry of a tile. -/
theorem yTile_apply (K : Keeps c M8 M9 M10 M11 f8 f9 f10 f11 g o) (k : Fin 19) (a : Fin 256) (n : Fin 9728) (hT : n.val / 512 = tileNo k) :
    yTile (F := Ideal) c M1 M2 M3 M8 M9 M10 M11 M12 M13 M14 M15 (h1.unread X1) (h2.unread X2) (h3.unread X3) f8 f9 f10 f11 k (ix2 a (tileCol n))
      = entry X1 X2 X3 (g a) (o a) n :=
  pay124_entry _ _ _ _ _ _ _ _ _ a n X1 X2 X3 (g a) (o a)
    ((v349_apply c M10 M14 f10 a).trans (K.scale a 0)) ((v350_apply c M11 M15 f11 a).trans (K.zero a 0))
    (fun x => (v351_apply c M8 M12 f8 a x).trans (K.codes a x)) (fun x => load_w8 M1 h1 X1 k n hT x)
    (fun x => (v355_apply c M9 M13 f9 a x).trans (K.outliers a x)) (fun x => load_wo M3 h3 X3 k n hT x)
    (load_col M2 h2 X2 k n hT 0 _ _) (load_col M2 h2 X2 k n hT 2 _ _) (load_col M2 h2 X2 k n hT 1 _ _)

/-- An entry of the product's block. -/
theorem yOf_apply (K : Keeps c M8 M9 M10 M11 f8 f9 f10 f11 g o) (a : Fin 256) (n : Fin 9728) :
    yOf (F := Ideal) c M1 M2 M3 M4 M8 M9 M10 M11 M12 M13 M14 M15 (h1.unread X1) (h2.unread X2) (h3.unread X3) f8 f9 f10 f11 (ix2 a n)
      = entry X1 X2 X3 (g a) (o a) n := by
  unfold yOf
  rw [View.read_writes_junk_apply_eq_canon, H4_eq]
  exact canon_tiles (e := .bf16)
    (yTile (F := Ideal) c M1 M2 M3 M8 M9 M10 M11 M12 M13 M14 M15 (h1.unread X1) (h2.unread X2) (h3.unread X3) f8 f9 f10 f11)
    (fun a n => entry X1 X2 X3 (g a) (o a) n)
    (fun k a n hT => yTile_apply c M1 h1 M2 h2 M3 h3 M8 M9 M10 M11 M12 M13 M14 M15 X1 X2 X3 f8 f9 f10 f11 g o K k a n hT) a n

/-- The kept buffers after a point hold its rows. -/
theorem keeps (M0 : Memref sig .tc .vmem S256x3584 .bf16) (h0 : M0.IsWhole) (X0 : S256x3584.Idx → Elt Ideal .bf16) :
    Keeps c M8 M9 M10 M11 (qOf (F := Ideal) c M0 M8 (h0.unread X0)) (oOf c M0 M9 (h0.unread X0)) (sOf c M0 M10 (h0.unread X0))
      (zOf c M0 M11 (h0.unread X0)) (xrow X0) (orow X0) :=
  ⟨fun a j => qOf_apply c M0 h0 X0 M8 a j, fun a b => oOf_apply c M0 h0 X0 M9 a b, fun a b => sOf_apply c M0 h0 X0 M10 a b,
    fun a b => zOf_apply c M0 h0 X0 M11 a b⟩

variable (W : Valuation τ sig (Elt Ideal))

/-- The product's block after a point, from the arrays' blocks. -/
theorem yOut_apply (s t : Fin cfg1.N) (a : Fin 256) (n : Fin 9728) :
    yOut W c s t (ix2 a n) = entry (w8Blk W t) (colBlk W t) (woBlk W t) (xrow (xBlk W s) a) (orow (xBlk W s) a) n := by
  unfold yOut
  exact yOf_apply c _ _ _ _ _ _ _ _ _ _ _ _ _ _ _ _ _ _ _ _ _ _ _ _ (keeps c _ _ _ _ _ (hstage1_0 _) (xBlk W s)) a n

end Cert.Proof.KernelIdeal

end
-- ==== Proof.KernelIdeal.Cover.lean ====
module

public import proofs.«01_k».proof.Proof.KernelIdeal.Tile
public import Idealize.ShloMosaic.Lib.Pipeline.ArrRel
public import Idealize.ShloMosaic.Lib.Pipeline.ValueKit

@[expose] public section

set_option maxRecDepth 16384

noncomputable section

namespace Cert.Proof.KernelIdeal

open Cert.KernelIdeal Cert.KernelIdeal.Gen Cert.Proof.Spec
open Idealize.ShloMosaic
open Idealize.ShloMosaic.TcCoe
open Idealize.SL.Sem
open Idealize.ShloMosaic.Pipeline (RDat Cfg Window)

/-- An element of an array that the flushed blocks cover has whatever property every flushed block's elements have. -/
theorem arr_forall {Λ₀ : Labels} {cfg : Cfg sig Λ₀} {c : Dev nD} (rd : RDat τ (Elt Ideal) Unit ℕ UU ℕ cfg c) {w : Fin cfg.W}
    {G : Buf (Elt Ideal) ((cfg.win w).arr.view.loc (c.tc : Thread nD τ))} (hG : rd.ArrAt w cfg.N G)
    (P : ((cfg.win w).arr.view.loc (c.tc : Thread nD τ)).2.ty.Idx → Elt Ideal ((cfg.win w).arr.view.loc (c.tc : Thread nD τ)).2.ty.elt → Prop)
    (hcov : (cfg.win w).Covers) (harr : (cfg.win w).arr.IsWhole)
    (hP : ∀ t, (cfg.win w).flush t = true → ∀ X, rd.Leaves w t X → ∀ y : ((cfg.win w).xblock (cfg.grid.coords t)).Idx,
      P (((cfg.win w).blk t).view.emb y)
        (_root_.cast (congrArg (Elt Ideal) ((cfg.win w).blk t).view.elt_eq.symm) (X ((cfg.win w).xinj (cfg.grid.coords t) y))))
    (i : ((cfg.win w).arr.view.loc (c.tc : Thread nD τ)).2.ty.Idx) : P i (G i) := by
  classical
  obtain ⟨X, hX, hA⟩ := hG.exists_exact
  rw [hA (fun w' t => if h : w' = w then h ▸ X t else Classical.arbitrary _) (fun u _ _ => dif_pos rfl)]
  refine Pipeline.Dat.arrAt_forall_of_covers _ w P hcov (fun t hf y => ?_) i harr
  have := hP t hf (X t) (hX t t.isLt hf) y
  simpa using this

end Cert.Proof.KernelIdeal

end
-- ==== Proof.KernelIdeal.Arrays0.lean ====
module

public import proofs.«01_k».proof.Proof.KernelIdeal.Cover

@[expose] public section

set_option maxRecDepth 16384

noncomputable section

namespace Cert.Proof.KernelIdeal

open Cert.KernelIdeal Cert.KernelIdeal.Gen Cert.Proof.Spec
open Idealize.ShloMosaic
open Idealize.ShloMosaic.TcCoe
open Idealize.SL.Sem
open Idealize.ShloMosaic.Pipeline (RDat Cfg Window)

/-! The arrays that the weight preparation leaves. -/

/-- Which block each window of the weight preparation names at a point. -/
theorem index0 : ∀ t : Fin cfg0.N, win0_0.index t = ![0, t.val] ∧ win0_1.index t = ![0, t.val] ∧ win0_2.index t = ![t.val, 0, 0] ∧ win0_3.index t = ![t.val, 0, 0] :=
  (by decide +kernel : ∀ t : Fin grid0.N, _)

variable (W : Valuation τ sig (Elt Ideal)) (c : Dev nD)

/-- A column of the packed weights, -/
abbrev wcolOf (w : S1664x9728.Idx → BitVec 8) (n : Fin 9728) : Fin 1664 → BitVec 8 := fun k => w (ix2 k n)

/-- the column of the array under column `b` of tile `T`. -/
abbrev tileAt (T : Fin 19) (b : Fin 512) : Fin 9728 := ⟨T.val * 512 + b.val, by omega⟩

theorem wBlk_apply (t : Fin cfg0.N) (T : Fin 19) (hT : T.val = t.val) (k : Fin 1664) (b : Fin 512) :
    wBlk W t (ix2 k b) = W (Proc.devRef .tc main_arg1) (ix2 k (tileAt T b)) := by
  show W (Proc.devRef .tc main_arg1) (((cfg0.win 0).blk t).view.emb (ix2 k b)) = _
  congr 1
  blk_ext [(index0 t).1]

theorem sBlk_apply (t : Fin cfg0.N) (T : Fin 19) (hT : T.val = t.val) (b : Fin 512) :
    sBlk W t (ix2 0 b) = W (Proc.devRef .tc main_v0) (ix2 0 (tileAt T b)) := by
  show W (Proc.devRef .tc main_v0) (((cfg0.win 1).blk t).view.emb (ix2 0 b)) = _
  congr 1
  blk_ext [(index0 t).2.1]

theorem pcol_blk (t : Fin cfg0.N) (T : Fin 19) (hT : T.val = t.val) (b : Fin 512) :
    pcol (wBlk W t) b = wcolOf (W (Proc.devRef .tc main_arg1)) (tileAt T b) := funext fun k => wBlk_apply W t T hT k b

theorem w8Out_apply (t : Fin cfg0.N) (T : Fin 19) (hT : T.val = t.val) (j : Fin 3328) (b : Fin 512) :
    w8Out W c t (ix3 0 j b) = ((wt (wcolOf (W (Proc.devRef .tc main_arg1)) (tileAt T b)) j : ℝ) : EReal) := by
  refine (w8Of_apply c _ _ _ _ j b).trans ?_
  rw [pcol_blk W t T hT b]

/-- The three rows of the column sums that are stored. -/
def ColRows (w : S1664x9728.Idx → BitVec 8) (s : S1x9728.Idx → EReal) (n : Fin 9728) (r : Fin 8) (v : EReal) : Prop :=
  (r = 0 → v = ((wtSum (wcolOf w n) : ℝ) : EReal) * ((8 : ℝ) : EReal))
    ∧ (r = 1 → v = s (ix2 0 n) * ((wtSum (wcolOf w n) : ℝ) : EReal)) ∧ (r = 2 → v = s (ix2 0 n))

theorem colOut_rows (t : Fin cfg0.N) (Y) (T : Fin 19) (hT : T.val = t.val) (r : Fin 8) (b : Fin 512) :
    ColRows (W (Proc.devRef .tc main_arg1)) (W (Proc.devRef .tc main_v0)) (tileAt T b) r (colOut W c t Y (ix3 0 r b)) := by
  refine ⟨?_, ?_, ?_⟩
  · rintro rfl
    refine (colOf_row0 c _ _ _ _ _ _ _ _ b).trans ?_
    rw [pcol_blk W t T hT b]
  · rintro rfl
    refine (colOf_row1 c _ _ _ _ _ _ _ _ b).trans ?_
    rw [pcol_blk W t T hT b, sBlk_apply W t T hT b]
  · rintro rfl
    refine (colOf_row2 c _ _ _ _ _ _ _ _ b).trans ?_
    rw [sBlk_apply W t T hT b]

theorem covers0_2 : (cfg0.win 2).Covers := by decide +kernel
theorem covers0_3 : (cfg0.win 3).Covers := by decide +kernel

/-- Where a block's element lies in the decoded weights, -/
theorem emb0_2 (t : Fin cfg0.N) (y : S1x3328x512.Idx) (i : S19x3328x512.Idx) (hi : ((cfg0.win 2).blk t).view.emb y = i) :
    (i 0).val = t.val ∧ i 1 = y 1 ∧ i 2 = y 2 := by
  subst hi
  refine ⟨?_, Fin.ext ?_, Fin.ext ?_⟩
  · blk_simp [(index0 t).2.2.1]
  · blk_simp [(index0 t).2.2.1]
  · blk_simp [(index0 t).2.2.1]
/-- and in the column sums. -/
theorem emb0_3 (t : Fin cfg0.N) (y : S1x8x512.Idx) (i : S19x8x512.Idx) (hi : ((cfg0.win 3).blk t).view.emb y = i) :
    (i 0).val = t.val ∧ i 1 = y 1 ∧ i 2 = y 2 := by
  subst hi
  refine ⟨?_, Fin.ext ?_, Fin.ext ?_⟩
  · blk_simp [(index0 t).2.2.2]
  · blk_simp [(index0 t).2.2.2]
  · blk_simp [(index0 t).2.2.2]

theorem ix3_first {n1 n2 : ℕ} (y : (⟨3, ![1, n1, n2]⟩ : Shape).Idx) : y = ix3 0 (y 1) (y 2) :=
  (eq_ix3 y).trans (congrArg (fun z => ix3 z (y 1) (y 2)) (Subsingleton.elim _ _))

theorem w8Out_at (t : Fin cfg0.N) (y : S1x3328x512.Idx) (i : S19x3328x512.Idx) (hi : ((cfg0.win 2).blk t).view.emb y = i) :
    w8Out W c t y = ((wt (wcolOf (W (Proc.devRef .tc main_arg1)) (tileAt (i 0) (i 2))) (i 1) : ℝ) : EReal) := by
  obtain ⟨e0, e1, e2⟩ := emb0_2 t y i hi
  rw [e1, e2, ← w8Out_apply W c t (i 0) e0 (y 1) (y 2)]
  exact congrArg (w8Out W c t) (ix3_first (n1 := 3328) (n2 := 512) y)
theorem colOut_at (t : Fin cfg0.N) (Y) (y : S1x8x512.Idx) (i : S19x8x512.Idx) (hi : ((cfg0.win 3).blk t).view.emb y = i) :
    ColRows (W (Proc.devRef .tc main_arg1)) (W (Proc.devRef .tc main_v0)) (tileAt (i 0) (i 2)) (i 1) (colOut W c t Y y) := by
  obtain ⟨e0, e1, e2⟩ := emb0_3 t y i hi
  have h := colOut_rows W c t Y (i 0) e0 (y 1) (y 2)
  have hy : y = ix3 0 (y 1) (y 2) := ix3_first (n1 := 8) (n2 := 512) y
  have hc : colOut W c t Y y = colOut W c t Y (ix3 0 (y 1) (y 2)) := congrArg (colOut W c t Y) hy
  rw [e1, e2, hc]
  exact h

/-- The decoded weights. -/
theorem w8_arr {G} (hG : (rd0 W c).ArrAt 2 cfg0.N G) (i : S19x3328x512.Idx) :
    (show S19x3328x512.Idx → EReal from G) i = ((wt (wcolOf (W (Proc.devRef .tc main_arg1)) (tileAt (i 0) (i 2))) (i 1) : ℝ) : EReal) := by
  refine arr_forall (rd0 W c) hG (fun (i : S19x3328x512.Idx) (v : EReal) =>
    v = ((wt (wcolOf (W (Proc.devRef .tc main_arg1)) (tileAt (i 0) (i 2))) (i 1) : ℝ) : EReal)) covers0_2 (Memref.isWhole_whole _) ?_ i
  rintro t hf X ⟨Y, -, hX⟩ y
  obtain rfl : X = w8Out W c t := hX
  blk_simp
  exact w8Out_at W c t y _ rfl

/-- The column sums. -/
theorem col_arr {G} (hG : (rd0 W c).ArrAt 3 cfg0.N G) (i : S19x8x512.Idx) :
    ColRows (W (Proc.devRef .tc main_arg1)) (W (Proc.devRef .tc main_v0)) (tileAt (i 0) (i 2)) (i 1) ((show S19x8x512.Idx → EReal from G) i) := by
  refine arr_forall (rd0 W c) hG (fun (i : S19x8x512.Idx) (v : EReal) =>
    ColRows (W (Proc.devRef .tc main_arg1)) (W (Proc.devRef .tc main_v0)) (tileAt (i 0) (i 2)) (i 1) v) covers0_3 (Memref.isWhole_whole _) ?_ i
  rintro t hf X ⟨Y, -, hX⟩ y
  obtain rfl : X = colOut W c t Y := hX
  blk_simp
  exact colOut_at W c t Y y _ rfl

end Cert.Proof.KernelIdeal

end
-- ==== Proof.KernelIdeal.ArraysC.lean ====
module

public import proofs.«01_k».proof.Proof.KernelIdeal.Cover

@[expose] public section

set_option maxRecDepth 16384

noncomputable section

namespace Cert.Proof.KernelIdeal

open Cert.KernelIdeal Cert.KernelIdeal.Gen Cert.Proof.Spec
open Idealize.ShloMosaic
open Idealize.ShloMosaic.TcCoe
open Idealize.SL.Sem
open Idealize.ShloMosaic.Pipeline (RDat Cfg Window)

/-! The codes and the product that the main kernel leaves. -/

/-- Which block each window of the main kernel names at a point. -/
theorem index1 : ∀ t : Fin cfg1.N, win1_0.index t = ![min t.val 71, 0] ∧ win1_1.index t = ![0, 0, 0] ∧ win1_2.index t = ![0, 0, 0] ∧ win1_3.index t = ![0, 0]
    ∧ win1_4.index t = ![t.val - 1, 0] ∧ win1_5.index t = ![min t.val 71, 0] :=
  (by decide +kernel : ∀ t : Fin grid1.N, _)

variable (W : Valuation τ sig (Elt Ideal)) (c : Dev nD)

/-- A row of the activations that the quantiser sees, -/
abbrev grow (x : S18432x3584.Idx → EReal) (r : Fin 18432) : Fin 3328 → EReal := fun j => x (ix2 r ⟨j.val, by omega⟩)
/-- and the rest of it. -/
abbrev gout (x : S18432x3584.Idx → EReal) (r : Fin 18432) : Fin 256 → EReal := fun j => x (ix2 r ⟨3328 + j.val, by omega⟩)

theorem xBlk_apply (t : Fin cfg1.N) (a : Fin 256) (r : Fin 18432) (hr : r.val = min t.val 71 * 256 + a.val) (j : Fin 3584) :
    xBlk W t (ix2 a j) = W (Proc.devRef .tc main_arg0) (ix2 r j) := by
  show W (Proc.devRef .tc main_arg0) (((cfg1.win 0).blk t).view.emb (ix2 a j)) = _
  congr 1
  blk_ext [(index1 t).1]

theorem xrow_blk (t : Fin cfg1.N) (a : Fin 256) (r : Fin 18432) (hr : r.val = min t.val 71 * 256 + a.val) :
    xrow (xBlk W t) a = grow (W (Proc.devRef .tc main_arg0)) r := funext fun j => xBlk_apply W t a r hr _
theorem orow_blk (t : Fin cfg1.N) (a : Fin 256) (r : Fin 18432) (hr : r.val = min t.val 71 * 256 + a.val) :
    orow (xBlk W t) a = gout (W (Proc.devRef .tc main_arg0)) r := funext fun j => xBlk_apply W t a r hr _

theorem w8Blk_eq (t : Fin cfg1.N) : w8Blk W t = W (Proc.devRef .tc main_v1_0) := by
  funext x
  show W (Proc.devRef .tc main_v1_0) (((cfg1.win 1).blk t).view.emb x) = _
  congr 1
  blk_ext [(index1 t).2.1]
theorem colBlk_eq (t : Fin cfg1.N) : colBlk W t = W (Proc.devRef .tc main_v1_1) := by
  funext x
  show W (Proc.devRef .tc main_v1_1) (((cfg1.win 2).blk t).view.emb x) = _
  congr 1
  blk_ext [(index1 t).2.2.1]
theorem woBlk_eq (t : Fin cfg1.N) : woBlk W t = W (Proc.devRef .tc main_arg3) := by
  funext x
  show W (Proc.devRef .tc main_arg3) (((cfg1.win 3).blk t).view.emb x) = _
  congr 1
  blk_ext [(index1 t).2.2.2.1]

/-- The codes. -/
theorem codes_arr {G} (hG : (rd1 W c).ArrAt 5 cfg1.N G) (r : Fin 18432) (j : Fin 3328) :
    (show S18432x3328.Idx → BitVec 8 from G) (ix2 r j) = codeBits (rowQ (grow (W (Proc.devRef .tc main_arg0)) r) j) := by
  refine arr_forall (rd1 W c) hG (fun (i : S18432x3328.Idx) (v : BitVec 8) =>
    v = codeBits (rowQ (grow (W (Proc.devRef .tc main_arg0)) (i 0)) (i 1))) (by decide +kernel) (Memref.isWhole_whole _) ?_ (ix2 r j)
  rintro t hf X ⟨Y, -, hX⟩ y
  obtain rfl : X = codesOut W c t := hX
  have hy : ((cfg1.win 5).xinj (cfg1.grid.coords t) y) = ix2 (n0 := 256) (n1 := 3328) (y 0) (y 1) := by
    funext d
    match d with
    | 0 => rfl
    | 1 => rfl
  rw [hy]
  generalize hi : ((cfg1.win 5).blk t).view.emb y = i
  have e0 : (i 0).val = min t.val 71 * 256 + (y 0).val := by rw [← hi]; blk_simp [(index1 t).2.2.2.2.2]
  have e1 : i 1 = y 1 := by rw [← hi]; apply Fin.ext; blk_simp [(index1 t).2.2.2.2.2]
  rw [e1]
  refine (codesOf_apply c _ _ _ _ (y 0) (y 1)).trans ?_
  rw [xrow_blk W t (y 0) (i 0) e0]

/-- The product flushes nothing at the first point. -/
theorem flush4 : ∀ t : Fin cfg1.N, (cfg1.win 4).flush t = true → 1 ≤ t.val := by
  show ∀ t : Fin grid1.N, win1_4.flush t = true → 1 ≤ t.val
  decide +kernel

/-- The product. -/
theorem y_arr {G} (hG : (rd1 W c).ArrAt 4 cfg1.N G) (r : Fin 18432) (n : Fin 9728) :
    (show S18432x9728.Idx → EReal from G) (ix2 r n) = entry (W (Proc.devRef .tc main_v1_0)) (W (Proc.devRef .tc main_v1_1)) (W (Proc.devRef .tc main_arg3))
      (grow (W (Proc.devRef .tc main_arg0)) r) (gout (W (Proc.devRef .tc main_arg0)) r) n := by
  refine arr_forall (rd1 W c) hG (fun (i : S18432x9728.Idx) (v : EReal) =>
    v = entry (W (Proc.devRef .tc main_v1_0)) (W (Proc.devRef .tc main_v1_1)) (W (Proc.devRef .tc main_arg3))
      (grow (W (Proc.devRef .tc main_arg0)) (i 0)) (gout (W (Proc.devRef .tc main_arg0)) (i 0)) (i 1)) (by decide +kernel) (Memref.isWhole_whole _) ?_ (ix2 r n)
  rintro t hf X ⟨Y, -, hX⟩ y
  have h1 := flush4 t hf
  have hN : t.val < 73 := t.isLt
  obtain rfl : X = yOut W c ⟨t.val - 1, by omega⟩ t := hX ⟨t.val - 1, by omega⟩ (by show t.val - 1 + 1 = t.val; omega)
  have hy : ((cfg1.win 4).xinj (cfg1.grid.coords t) y) = ix2 (n0 := 256) (n1 := 9728) (y 0) (y 1) := by
    funext d
    match d with
    | 0 => rfl
    | 1 => rfl
  rw [hy]
  generalize hi : ((cfg1.win 4).blk t).view.emb y = i
  have e0 : (i 0).val = min (t.val - 1) 71 * 256 + (y 0).val := by rw [← hi]; blk_simp [(index1 t).2.2.2.2.1]; omega
  have e1 : i 1 = y 1 := by rw [← hi]; apply Fin.ext; blk_simp [(index1 t).2.2.2.2.1]
  rw [e1]
  refine (yOut_apply c W _ t (y 0) (y 1)).trans ?_
  rw [xrow_blk W ⟨t.val - 1, by omega⟩ (y 0) (i 0) e0, orow_blk W ⟨t.val - 1, by omega⟩ (y 0) (i 0) e0, w8Blk_eq, colBlk_eq, woBlk_eq]

end Cert.Proof.KernelIdeal

end
-- ==== Proof.KernelIdeal.ArraysS.lean ====
module

public import proofs.«01_k».proof.Proof.KernelIdeal.ArraysC

@[expose] public section

set_option maxRecDepth 16384

noncomputable section

namespace Cert.Proof.KernelIdeal

open Cert.KernelIdeal Cert.KernelIdeal.Gen Cert.Proof.Spec
open Idealize.ShloMosaic
open Idealize.ShloMosaic.TcCoe
open Idealize.SL.Sem
open Idealize.ShloMosaic.Pipeline (RDat Cfg Window)

/-! The scales and zero points that the main kernel leaves: their arrays are carried through all the points, one strip written at each. -/

/-- The row that an element of the scales' array belongs to. -/
abbrev rowAt (y : S12x1536.Idx) : Fin 18432 :=
  ⟨(y 0).val * 1536 + (y 1).val, by have h0 : (y 0).val < 12 := (y 0).isLt; have h1 : (y 1).val < 1536 := (y 1).isLt; omega⟩

/-- A value carried through the points, of which each point fills one strip, holds every strip filled so far. -/
theorem strips (f : Fin 18432 → EReal) (L : ℕ → (S12x1536.Idx → EReal) → Prop)
    (step : ∀ n X, n < 73 → L n X → ∃ Y, (n ≠ 0 → L (n - 1) Y) ∧
      ∀ y, ((rowAt y).val / 256 = min n 71 → X y = f (rowAt y)) ∧ ((rowAt y).val / 256 ≠ min n 71 → X y = Y y)) :
    ∀ n X, n < 73 → L n X → ∀ y, (rowAt y).val / 256 ≤ n → X y = f (rowAt y) := by
  intro n
  induction n with
  | zero =>
    intro X hn hX y hy
    obtain ⟨Y, -, hs⟩ := step 0 X hn hX
    exact (hs y).1 (by omega)
  | succ n ih =>
    intro X hn hX y hy
    obtain ⟨Y, hY, hs⟩ := step (n + 1) X hn hX
    by_cases h : (rowAt y).val / 256 = min (n + 1) 71
    · exact (hs y).1 h
    · rw [(hs y).2 h]
      have := (rowAt y).isLt
      exact ih Y (by omega) (hY (by omega)) y (by omega)

/-- The strip that a point fills. -/
theorem strip_off : ∀ t : Fin cfg1.N, k1_off2 (grid1.coords t) 0 = min t.val 71 / 6 ∧ k1_off2 (grid1.coords t) 1 = min t.val 71 % 6 * 256 :=
  (by decide +kernel : ∀ t : Fin grid1.N, _)

theorem in_strip (t : Fin cfg1.N) (y : S12x1536.Idx) :
    (∀ d, k1_off2 (grid1.coords t) d ≤ (y d).val ∧ (y d).val < k1_off2 (grid1.coords t) d + S1x256.size d) ↔ (rowAt y).val / 256 = min t.val 71 := by
  have h0 : (y 0).val < 12 := (y 0).isLt
  have h1 : (y 1).val < 1536 := (y 1).isLt
  have e0 := (strip_off t).1
  have e1 := (strip_off t).2
  constructor
  · intro h
    have a0 : k1_off2 (grid1.coords t) 0 ≤ (y 0).val ∧ (y 0).val < k1_off2 (grid1.coords t) 0 + 1 := h 0
    have a1 : k1_off2 (grid1.coords t) 1 ≤ (y 1).val ∧ (y 1).val < k1_off2 (grid1.coords t) 1 + 256 := h 1
    show ((y 0).val * 1536 + (y 1).val) / 256 = _
    omega
  · intro h
    have h : ((y 0).val * 1536 + (y 1).val) / 256 = min t.val 71 := h
    intro d
    match d with
    | 0 => show k1_off2 (grid1.coords t) 0 ≤ (y 0).val ∧ (y 0).val < k1_off2 (grid1.coords t) 0 + 1; omega
    | 1 => show k1_off2 (grid1.coords t) 1 ≤ (y 1).val ∧ (y 1).val < k1_off2 (grid1.coords t) 1 + 256; omega

variable (W : Valuation τ sig (Elt Ideal)) (c : Dev nD)

theorem scaleOut_apply (t : Fin cfg1.N) (Y : S12x1536.Idx → EReal) (y : S12x1536.Idx) :
    ((rowAt y).val / 256 = min t.val 71 → scaleOut W c t Y y = rowScale (grow (W (Proc.devRef .tc main_arg0)) (rowAt y)))
      ∧ ((rowAt y).val / 256 ≠ min t.val 71 → scaleOut W c t Y y = Y y) := by
  have key := scaleOf_apply c _ (hstage1_0 ((cfg1.slots t 0).cast nbuf1_0)) (xBlk W t) (grid1.coords t) (st1_6 t) ((hstage1_6 ((cfg1.slots t 6).cast nbuf1_6)).unread Y) y
  refine ⟨fun h => ?_, fun h => ?_⟩
  · rw [dif_pos ((in_strip t y).2 h)] at key
    refine key.trans (congrArg rowScale (xrow_blk W t _ _ ?_))
    have e1 := (strip_off t).2
    have := ((in_strip t y).2 h 1).1
    have h1 : (y 1).val < 1536 := (y 1).isLt
    have h : ((y 0).val * 1536 + (y 1).val) / 256 = min t.val 71 := h
    show (y 0).val * 1536 + (y 1).val = min t.val 71 * 256 + ((y 1).val - k1_off2 (grid1.coords t) 1)
    omega
  · rw [dif_neg fun h' => h ((in_strip t y).1 h')] at key
    have hr : (st1_6 t).view.read (Elt Ideal) ((hstage1_6 ((cfg1.slots t 6).cast nbuf1_6)).unread (Val := Elt Ideal) (e := .f32) Y) = Y :=
      (hstage1_6 ((cfg1.slots t 6).cast nbuf1_6)).read_unread (Val := Elt Ideal) Y
    exact key.trans (congrFun hr y)

theorem zeroOut_apply (t : Fin cfg1.N) (Y : S12x1536.Idx → EReal) (y : S12x1536.Idx) :
    ((rowAt y).val / 256 = min t.val 71 → zeroOut W c t Y y = rowMin (grow (W (Proc.devRef .tc main_arg0)) (rowAt y)))
      ∧ ((rowAt y).val / 256 ≠ min t.val 71 → zeroOut W c t Y y = Y y) := by
  have key := zeroOf_apply c _ (hstage1_0 ((cfg1.slots t 0).cast nbuf1_0)) (xBlk W t) (grid1.coords t) (st1_7 t) ((hstage1_7 ((cfg1.slots t 7).cast nbuf1_7)).unread Y) y
  refine ⟨fun h => ?_, fun h => ?_⟩
  · rw [dif_pos ((in_strip t y).2 h)] at key
    refine key.trans (congrArg rowMin (xrow_blk W t _ _ ?_))
    have e1 := (strip_off t).2
    have := ((in_strip t y).2 h 1).1
    have h1 : (y 1).val < 1536 := (y 1).isLt
    have h : ((y 0).val * 1536 + (y 1).val) / 256 = min t.val 71 := h
    show (y 0).val * 1536 + (y 1).val = min t.val 71 * 256 + ((y 1).val - k1_off2 (grid1.coords t) 1)
    omega
  · rw [dif_neg fun h' => h ((in_strip t y).1 h')] at key
    have hr : (st1_7 t).view.read (Elt Ideal) ((hstage1_7 ((cfg1.slots t 7).cast nbuf1_7)).unread (Val := Elt Ideal) (e := .f32) Y) = Y :=
      (hstage1_7 ((cfg1.slots t 7).cast nbuf1_7)).read_unread (Val := Elt Ideal) Y
    exact key.trans (congrFun hr y)

/-- The scales' window is handed on from point to point. -/
theorem finds6 (n : ℕ) (hn : n < 73) (h0 : n ≠ 0) (Y) (hY : (rd1 W c).Finds 6 ⟨n, hn⟩ Y) : (rd1 W c).Leaves 6 ⟨n - 1, by show n - 1 < 73; omega⟩ Y := by
  rcases ((rd1 W c).finds_of_pos (w := 6) (t := ⟨n, hn⟩) rfl h0 Y).1 hY with h | h
  · have := (flush1_6 _).1 h
    have : (n - 1) % 73 = 72 := this
    omega
  · exact h
/-- The zero points' window is handed on from point to point. -/
theorem finds7 (n : ℕ) (hn : n < 73) (h0 : n ≠ 0) (Y) (hY : (rd1 W c).Finds 7 ⟨n, hn⟩ Y) : (rd1 W c).Leaves 7 ⟨n - 1, by show n - 1 < 73; omega⟩ Y := by
  rcases ((rd1 W c).finds_of_pos (w := 7) (t := ⟨n, hn⟩) rfl h0 Y).1 hY with h | h
  · have := (flush1_7 _).1 h
    have : (n - 1) % 73 = 72 := this
    omega
  · exact h

theorem leaves6 : ∀ n X, n < 73 → (∃ hn : n < 73, (rd1 W c).Leaves 6 ⟨n, hn⟩ X) → ∀ y : S12x1536.Idx, (rowAt y).val / 256 ≤ n →
    X y = rowScale (grow (W (Proc.devRef .tc main_arg0)) (rowAt y)) := by
  refine strips (fun r => rowScale (grow (W (Proc.devRef .tc main_arg0)) r)) (fun n X => ∃ hn : n < 73, (rd1 W c).Leaves 6 ⟨n, hn⟩ X) ?_
  rintro n X hn ⟨_, Y, hY, hX⟩
  obtain rfl : X = scaleOut W c ⟨n, hn⟩ Y := hX
  exact ⟨Y, fun h0 => ⟨by omega, finds6 W c n hn h0 Y hY⟩, fun y => scaleOut_apply W c ⟨n, hn⟩ Y y⟩
theorem leaves7 : ∀ n X, n < 73 → (∃ hn : n < 73, (rd1 W c).Leaves 7 ⟨n, hn⟩ X) → ∀ y : S12x1536.Idx, (rowAt y).val / 256 ≤ n →
    X y = rowMin (grow (W (Proc.devRef .tc main_arg0)) (rowAt y)) := by
  refine strips (fun r => rowMin (grow (W (Proc.devRef .tc main_arg0)) r)) (fun n X => ∃ hn : n < 73, (rd1 W c).Leaves 7 ⟨n, hn⟩ X) ?_
  rintro n X hn ⟨_, Y, hY, hX⟩
  obtain rfl : X = zeroOut W c ⟨n, hn⟩ Y := hX
  exact ⟨Y, fun h0 => ⟨by omega, finds7 W c n hn h0 Y hY⟩, fun y => zeroOut_apply W c ⟨n, hn⟩ Y y⟩

theorem whole6 : (cfg1.win 6).WholeAt ⟨72, by decide⟩ := by decide +kernel
theorem whole7 : (cfg1.win 7).WholeAt ⟨72, by decide⟩ := by decide +kernel

/-- The scales. -/
theorem scale_arr {G} (hG : (rd1 W c).ArrAt 6 cfg1.N G) (y : S12x1536.Idx) :
    (show S12x1536.Idx → EReal from G) y = rowScale (grow (W (Proc.devRef .tc main_arg0)) (rowAt y)) := by
  obtain ⟨X, hX, hA⟩ := hG.emb_eq_of_wholeAt whole6
  refine (hA y).trans ?_
  have := (rowAt y).isLt
  exact leaves6 W c 72 X (by omega) ⟨by omega, hX⟩ y (by omega)
/-- The zero points. -/
theorem zero_arr {G} (hG : (rd1 W c).ArrAt 7 cfg1.N G) (y : S12x1536.Idx) :
    (show S12x1536.Idx → EReal from G) y = rowMin (grow (W (Proc.devRef .tc main_arg0)) (rowAt y)) := by
  obtain ⟨X, hX, hA⟩ := hG.emb_eq_of_wholeAt whole7
  refine (hA y).trans ?_
  have := (rowAt y).isLt
  exact leaves7 W c 72 X (by omega) ⟨by omega, hX⟩ y (by omega)

end Cert.Proof.KernelIdeal

end
-- ==== Proof.KernelIdeal.Results.lean ====
module

public import proofs.«01_k».proof.Proof.KernelIdeal.Arrays0
public import proofs.«01_k».proof.Proof.KernelIdeal.ArraysS
public import proofs.«01_k».proof.Proof.KernelIdeal.Run

@[expose] public section

set_option maxRecDepth 16384

noncomputable section

namespace Cert.Proof.KernelIdeal

open Cert.KernelIdeal Cert.KernelIdeal.Gen Cert.Proof.Spec
open Idealize.ShloMosaic
open Idealize.ShloMosaic.TcCoe
open Idealize.SL.Sem
open Idealize.ShloMosaic.Pipeline (RDat Cfg Window)

/-! What every run of the program leaves in its results. -/

/-- An entry of the product over the prepared weights is the layer's value. -/
theorem entry_layer (X1 : S19x3328x512.Idx → EReal) (X2 : S19x8x512.Idx → EReal) (X3 : S256x9728.Idx → EReal)
    (w : S1664x9728.Idx → BitVec 8) (s : S1x9728.Idx → EReal)
    (h1 : ∀ i : S19x3328x512.Idx, X1 i = ((wt (wcolOf w (tileAt (i 0) (i 2))) (i 1) : ℝ) : EReal))
    (h2 : ∀ i : S19x8x512.Idx, ColRows w s (tileAt (i 0) (i 2)) (i 1) (X2 i))
    (g : Fin 3328 → EReal) (o : Fin 256 → EReal) (n : Fin 9728) :
    entry X1 X2 X3 g o n = layer g (wcolOf w n) (s (ix2 0 n)) o (fun x => X3 (ix2 x n)) := by
  have hn : tileAt (tileIx n) (tileCol n) = n := Fin.ext (show n.val / 512 * 512 + n.val % 512 = n.val by omega)
  have e0 := (h2 (ix3 (tileIx n) 0 (tileCol n))).1 rfl
  have e1 := (h2 (ix3 (tileIx n) 1 (tileCol n))).2.1 rfl
  have e2 := (h2 (ix3 (tileIx n) 2 (tileCol n))).2.2 rfl
  have ew : ∀ j, X1 (ix3 (tileIx n) j (tileCol n)) = ((wt (wcolOf w n) j : ℝ) : EReal) := fun j => by
    rw [h1]
    show ((wt (wcolOf w (tileAt (tileIx n) (tileCol n))) j : ℝ) : EReal) = _
    rw [hn]
  have f0 : X2 (ix3 (tileIx n) 0 (tileCol n)) = ((wtSum (wcolOf w n) : ℝ) : EReal) * ((8 : ℝ) : EReal) :=
    e0.trans (by show ((wtSum (wcolOf w (tileAt (tileIx n) (tileCol n))) : ℝ) : EReal) * _ = _; rw [hn])
  have f1 : X2 (ix3 (tileIx n) 1 (tileCol n)) = s (ix2 0 n) * ((wtSum (wcolOf w n) : ℝ) : EReal) :=
    e1.trans (by show s (ix2 0 (tileAt (tileIx n) (tileCol n))) * ((wtSum (wcolOf w (tileAt (tileIx n) (tileCol n))) : ℝ) : EReal) = _; rw [hn])
  have f2 : X2 (ix3 (tileIx n) 2 (tileCol n)) = s (ix2 0 n) :=
    e2.trans (by show s (ix2 0 (tileAt (tileIx n) (tileCol n))) = _; rw [hn])
  unfold entry layer
  rw [f0, f1, f2, ← rowDot_shifted]
  simp only [ew]

variable (m : (ℓ : Loc nD τ sig) → Buf (Elt Ideal) ℓ) (c : Dev nD)

/-- The arguments as launched. -/
abbrev argX : S18432x3584.Idx → EReal := m ((c : Thread nD τ).loc main_arg0)
abbrev argW : S1664x9728.Idx → BitVec 8 := m ((c : Thread nD τ).loc main_arg1)
abbrev argS : S9728.Idx → EReal := m ((c : Thread nD τ).loc main_arg2)
abbrev argO : S256x9728.Idx → EReal := m ((c : Thread nD τ).loc main_arg3)

/-- The weight scales, laid out as one row. -/
theorem V1_scales (n : Fin 9728) : (show S1x9728.Idx → EReal from V1 m c (Proc.devRef .tc main_v0)) (ix2 0 n) = argS m c (ix1 n) := by
  have h : V1 m c (Proc.devRef .tc main_v0) = shapeCast S1x9728 (argS m c) shapeCasts_S9728_S1x9728 := by
    simp only [V1, hostOps0]
    after_results_simp
    rfl
  rw [h]
  exact shapeCast_apply _ _ _ _ (by rw [Shape.rowMajor_val_one, Shape.rowMajor_val_two]; simp)

/-- What the results hold at the end. -/
theorem Ends.results {s : MemSt nD τ sig (Elt Ideal)} (h : Ends m c s) :
    (∀ (r : Fin 18432) (n : Fin 9728), (show S18432x9728.Idx → EReal from s.mem ((c : Thread nD τ).loc main_v2_0)) (ix2 r n)
        = layer (grow (argX m c) r) (wcolOf (argW m c) n) (argS m c (ix1 n)) (gout (argX m c) r) (fun x => argO m c (ix2 x n)))
      ∧ (∀ (r : Fin 18432) (j : Fin 3328), (show S18432x3328.Idx → BitVec 8 from s.mem ((c : Thread nD τ).loc main_v2_1)) (ix2 r j)
        = codeBits (rowQ (grow (argX m c) r) j))
      ∧ (∀ y : S12x1536.Idx, (show S12x1536.Idx → EReal from s.mem ((c : Thread nD τ).loc main_v2_2)) y = rowScale (grow (argX m c) (rowAt y)))
      ∧ (∀ y : S12x1536.Idx, (show S12x1536.Idx → EReal from s.mem ((c : Thread nD τ).loc main_v2_3)) y = rowMin (grow (argX m c) (rowAt y))) := by
  obtain ⟨o, ⟨A0, hA0, rfl⟩, A, hA, hb⟩ := h
  have hm : ∀ b : Ref sig .tc, b.isScoped = false → s.mem ((c : Thread nD τ).loc b) = after1 (after0 (V1 m c) A0) A (Proc.devRef .tc b) := fun b hu =>
    hb (Proc.devRef .tc b) (Finset.mem_filter.mpr ⟨StableHlo.devRef_mem_tcRefs b, by simpa using hu⟩)
  have hx : after0 (V1 m c) A0 (Proc.devRef .tc main_arg0) = m ((c : Thread nD τ).loc main_arg0) :=
    (after0_of (V1 m c) A0 main_arg0 (by decide) (by decide)).trans ((V1_of m c main_arg0 (by decide)).trans rfl)
  have ho : after0 (V1 m c) A0 (Proc.devRef .tc main_arg3) = m ((c : Thread nD τ).loc main_arg3) :=
    (after0_of (V1 m c) A0 main_arg3 (by decide) (by decide)).trans ((V1_of m c main_arg3 (by decide)).trans rfl)
  have hw : V1 m c (Proc.devRef .tc main_arg1) = m ((c : Thread nD τ).loc main_arg1) := (V1_of m c main_arg1 (by decide)).trans rfl
  have h1 := w8_arr (V1 m c) c (hA0 2)
  have h2 := col_arr (V1 m c) c (hA0 3)
  rw [hw] at h1 h2
  refine ⟨fun r n => ?_, fun r j => ?_, fun y => ?_, fun y => ?_⟩
  · rw [hm main_v2_0 rfl, after1_v2_0]
    refine (y_arr (after0 (V1 m c) A0) c (hA 4) r n).trans ?_
    rw [hx, ho, after0_v1_0, after0_v1_1]
    refine (entry_layer (A0 2) (A0 3) _ (argW m c) _ h1 h2 _ _ n).trans ?_
    exact congrArg (fun z => layer (grow (argX m c) r) (wcolOf (argW m c) n) z (gout (argX m c) r) (fun x => argO m c (ix2 x n))) (V1_scales m c n)
  · rw [hm main_v2_1 rfl, after1_v2_1]
    refine (codes_arr (after0 (V1 m c) A0) c (hA 5) r j).trans ?_
    rw [hx]
  · rw [hm main_v2_2 rfl, after1_v2_2]
    refine (scale_arr (after0 (V1 m c) A0) c (hA 6) y).trans ?_
    rw [hx]
  · rw [hm main_v2_3 rfl, after1_v2_3]
    refine (zero_arr (after0 (V1 m c) A0) c (hA 7) y).trans ?_
    rw [hx]

end Cert.Proof.KernelIdeal

end
-- ==== Proof.ReferenceIdeal.Layers.lean ====
module

public import proofs.«01_k».proof.Proof.Spec
public import proofs.«01_k».proof.Proof.Gen.ReferenceIdeal.Run
public import Idealize.ShloMosaic.Lib.Pointwise

@[expose] public section

set_option maxRecDepth 16384

noncomputable section

/-! The reference's results, entry by entry: its composed term is named in layers and each layer is read at an entry. -/

namespace Cert.Proof.ReferenceIdeal

open Cert.ReferenceIdeal Cert.ReferenceIdeal.Gen Cert.Proof.Spec
open Idealize.ShloMosaic
open Idealize.ShloMosaic.TcCoe
open Idealize.SL.Sem

/-- The columns that are quantised. -/
def rows (x : FVec Ideal S18432x3584 .bf16) : FVec Ideal S18432x3328 .f32 :=
  extf .f32 (extractStridedSlice S18432x3328 ![0, 0] x slices_S18432x3584_S18432x3328_0_0) bitsLt_bf16_f32
/-- Each row's least entry, -/
def mins (x : FVec Ideal S18432x3584 .bf16) : FVec Ideal S18432 .f32 :=
  Host.reduce FloatOps.minimumf (rows x) (constant S_ .f32 0x7F800000#32) reducesTo_S18432x3328_S18432_d1 h_S_
/-- its greatest, -/
def maxs (x : FVec Ideal S18432x3584 .bf16) : FVec Ideal S18432 .f32 :=
  Host.reduce FloatOps.maximumf (rows x) (constant S_ .f32 0xFF800000#32) reducesTo_S18432x3328_S18432_d1 h_S_
/-- and its scale. -/
def scales (x : FVec Ideal S18432x3584 .bf16) : FVec Ideal S18432 .f32 :=
  select (cmpf .oeq (maxs x) (mins x)) (broadcastInDim S18432 ![] bcast_S_S18432 (constant S_ .f32 0x3F800000#32))
    (Host.divf (subf (maxs x) (mins x)) (broadcastInDim S18432 ![] bcast_S_S18432 (constant S_ .f32 0x41700000#32)))
/-- The codes before their conversion, -/
def levels (x : FVec Ideal S18432x3584 .bf16) : FVec Ideal S18432x3328 .f32 :=
  minimumf (broadcastInDim S18432x3328 ![] bcast_S_S18432x3328 (id (constant S_ .f32 0x41700000#32)))
    (maximumf (broadcastInDim S18432x3328 ![] bcast_S_S18432x3328 (id (constant S_ .f32 0x00000000#32)))
      (Host.roundeven (Host.divf
        (subf (rows x) (broadcastInDim S18432x3328 ![0, 1] bcast_S18432x1_S18432x3328_0_1 (broadcastInDim S18432x1 ![0] bcast_S18432_S18432x1_0 (mins x))))
        (broadcastInDim S18432x3328 ![0, 1] bcast_S18432x1_S18432x3328_0_1 (broadcastInDim S18432x1 ![0] bcast_S18432_S18432x1_0 (scales x))))))
/-- and as stored. -/
def codes (x : FVec Ideal S18432x3584 .bf16) : IVec S18432x3328 8 := trunci 8 (fptosi (F := Ideal) 32 (levels x)) natLt_8_32
/-- The codes of the even columns -/
def evens (x : FVec Ideal S18432x3584 .bf16) : FVec Ideal S18432x1664 .bf16 :=
  sitofp .bf16 (extui 32 (Host.slice S18432x1664 ![0, 0] ![1, 2] (codes x) slicesBy_S18432x3328_S18432x1664_0s1_0s2) natLt_8_32)
/-- and of the odd ones. -/
def odds (x : FVec Ideal S18432x3584 .bf16) : FVec Ideal S18432x1664 .bf16 :=
  sitofp .bf16 (extui 32 (Host.slice S18432x1664 ![0, 1] ![1, 2] (codes x) slicesBy_S18432x3328_S18432x1664_0s1_1s2) natLt_8_32)
/-- A half byte as a signed number. -/
def signed (v : IVec S1664x9728 32) : IVec S1664x9728 32 :=
  select (cmpi .sge v (broadcastInDim S1664x9728 ![] bcast_S_S1664x9728 (constantI S_ 32 8#32)))
    (subi v (broadcastInDim S1664x9728 ![] bcast_S_S1664x9728 (constantI S_ 32 16#32))) v
/-- The packed bytes' low halves -/
def lows (w : IVec S1664x9728 8) : IVec S1664x9728 32 :=
  signed (andi (extui 32 w natLt_8_32) (broadcastInDim S1664x9728 ![] bcast_S_S1664x9728 (constantI S_ 32 15#32)))
/-- and their high halves. -/
def highs (w : IVec S1664x9728 8) : IVec S1664x9728 32 :=
  signed (Host.shrsi (extui 32 w natLt_8_32) (broadcastInDim S1664x9728 ![] bcast_S_S1664x9728 (constantI S_ 32 4#32)))
/-- The sum of the decoded weights of each column. -/
def colsums (w : IVec S1664x9728 8) : FVec Ideal S9728 .f32 :=
  sitofp .f32 (addi (Host.reduce IntOp.addi (lows w) (constantI S_ 32 0#32) reducesTo_S1664x9728_S9728_d0 h_S_)
    (Host.reduce IntOp.addi (highs w) (constantI S_ 32 0#32) reducesTo_S1664x9728_S9728_d0 h_S_))
/-- A value of each row, along the row. -/
def acrossRow (v : FVec Ideal S18432 .f32) : FVec Ideal S18432x9728 .f32 :=
  broadcastInDim S18432x9728 ![0, 1] bcast_S18432x1_S18432x9728_0_1 (broadcastInDim S18432x1 ![0] bcast_S18432_S18432x1_0 v)
/-- A value of each column, down the column. -/
def downColumn (v : FVec Ideal S9728 .f32) : FVec Ideal S18432x9728 .f32 :=
  broadcastInDim S18432x9728 ![0, 1] bcast_S1x9728_S18432x9728_0_1 (broadcastInDim S1x9728 ![1] bcast_S9728_S1x9728_1 v)
/-- The product of the codes and the decoded weights. -/
def product (x : FVec Ideal S18432x3584 .bf16) (w : IVec S1664x9728 8) : FVec Ideal S18432x9728 .f32 :=
  addf (Host.dotGeneral (F := Ideal) dot_S18432x1664_S1664x9728_S18432x9728_1_0_0_1_n_n none (evens x) (sitofp .bf16 (lows w)))
    (Host.dotGeneral (F := Ideal) dot_S18432x1664_S1664x9728_S18432x9728_1_0_0_1_n_n none (odds x) (sitofp .bf16 (highs w)))
/-- The outlier columns' product. -/
def side (x : FVec Ideal S18432x3584 .bf16) (o : FVec Ideal S256x9728 .bf16) : FVec Ideal S18432x9728 .f32 :=
  Host.dotGeneral (F := Ideal) dot_S18432x256_S256x9728_S18432x9728_1_0_0_1_n_n none
    (extractStridedSlice S18432x256 ![0, 3328] x slices_S18432x3584_S18432x256_0_3328) o
/-- The layer's result. -/
def result (x : FVec Ideal S18432x3584 .bf16) (w : IVec S1664x9728 8) (s : FVec Ideal S9728 .f32) (o : FVec Ideal S256x9728 .bf16) :
    FVec Ideal S18432x9728 .bf16 :=
  truncf .bf16 (addf (addf (mulf (mulf (acrossRow (scales x)) (downColumn s)) (product x w))
    (mulf (acrossRow (mins x)) (downColumn (mulf s (colsums w))))) (side x o)) bitsLt_bf16_f32

/-- A row of activations: what of it is quantised, -/
abbrev arow (x : S18432x3584.Idx → EReal) (i : Fin 18432) : Fin 3328 → EReal := fun j => x (ix2 i ⟨j.val, by omega⟩)
/-- and its outliers. -/
abbrev aout (x : S18432x3584.Idx → EReal) (i : Fin 18432) : Fin 256 → EReal := fun j => x (ix2 i ⟨3328 + j.val, by omega⟩)
/-- A column of packed weights. -/
abbrev wcol (w : S1664x9728.Idx → BitVec 8) (n : Fin 9728) : Fin 1664 → BitVec 8 := fun k => w (ix2 k n)

end Cert.Proof.ReferenceIdeal

end
-- ==== Proof.ReferenceIdeal.Entries.lean ====
module

public import proofs.«01_k».proof.Proof.ReferenceIdeal.Layers
public import Idealize.ShloMosaic.Lib.Pointwise

@[expose] public section

set_option maxRecDepth 16384

noncomputable section

/-! The reference's results, entry by entry. -/

namespace Cert.Proof.ReferenceIdeal

open Cert.ReferenceIdeal Cert.ReferenceIdeal.Gen Cert.Proof.Spec
open Idealize.ShloMosaic
open Idealize.ShloMosaic.TcCoe
open Idealize.SL.Sem

theorem ofBits_zero : Ideal.ofBits .f32 0#32 = 0 := by simp [Ideal.ofBits, Ideal.ieee]

/-- A half byte above seven stands for itself less sixteen: the low half -/
theorem lo_mask : ∀ p : BitVec 8, (Scalar.select (IntOp.cmpi CmpIPredicate.sge (IntOp.andi (BitVec.setWidth 32 p) 15#32) 8#32)
    (IntOp.subi (IntOp.andi (BitVec.setWidth 32 p) 15#32) 16#32) (IntOp.andi (BitVec.setWidth 32 p) 15#32)).toInt = loNib p := by
  decide +kernel
/-- and the high half. -/
theorem hi_mask : ∀ p : BitVec 8, (Scalar.select (IntOp.cmpi CmpIPredicate.sge (IntOp.shrsi ArithUnit.host (BitVec.setWidth 32 p) 4#32) 8#32)
    (IntOp.subi (IntOp.shrsi ArithUnit.host (BitVec.setWidth 32 p) 4#32) 16#32) (IntOp.shrsi ArithUnit.host (BitVec.setWidth 32 p) 4#32)).toInt
      = hiNib p := by
  decide +kernel

/-- A sum of 32-bit words that are small enough is the sum of their values. -/
theorem toInt_fold {ι : Type*} (f : ι → BitVec 32) (hf : ∀ k, -8 ≤ (f k).toInt ∧ (f k).toInt ≤ 7) (S : Finset ι) (hS : S.card ≤ 1664) :
    (Finset.fold IntOp.addi (0#32) f S).toInt = ∑ k ∈ S, (f k).toInt
      ∧ -8 * (S.card : ℤ) ≤ ∑ k ∈ S, (f k).toInt ∧ ∑ k ∈ S, (f k).toInt ≤ 7 * (S.card : ℤ) := by
  induction S using Finset.cons_induction with
  | empty => simp
  | cons a S h ih =>
    rw [Finset.card_cons] at hS ⊢
    obtain ⟨e, l, u⟩ := ih (by omega)
    rw [Finset.fold_cons, Finset.sum_cons]
    have ha := hf a
    refine ⟨?_, by push_cast; omega, by push_cast; omega⟩
    show (f a + Finset.fold IntOp.addi (0#32) f S).toInt = _
    rw [BitVec.toInt_add, e, Int.bmod_eq_of_le (by omega) (by omega)]

variable (x : FVec Ideal S18432x3584 .bf16) (w : IVec S1664x9728 8) (s : FVec Ideal S9728 .f32) (o : FVec Ideal S256x9728 .bf16)
  (i : Fin 18432) (j : Fin 3328) (n : Fin 9728) (k : Fin 1664)

/-- The reference's first result is the layers put together. -/
theorem res_eq (m : (ℓ : Loc nD τ sig) → Buf (Elt Ideal) ℓ) (c : Dev nD) :
    Value.res_out0 (F := Ideal) m c = result (m ((c.tc : Thread nD τ).loc main_arg0)) (m ((c.tc : Thread nD τ).loc main_arg1))
      (m ((c.tc : Thread nD τ).loc main_arg2)) (m ((c.tc : Thread nD τ).loc main_arg3)) := rfl

theorem rows_apply : rows x (ix2 i j) = arow x i j := by
  pointwise [rows]
theorem mins_apply : mins x (ix1 i) = rowMin (arow x i) := by
  pointwise [mins, rowMin]
  simp only [rows_apply]
  rw [ofBits_inf_f32]
theorem maxs_apply : maxs x (ix1 i) = rowMax (arow x i) := by
  pointwise [maxs, rowMax]
  simp only [rows_apply]
  rw [ofBits_ninf_f32]
theorem scale_of (a b : FVec Ideal S18432 .f32) (h l : EReal) (ha : a (ix1 i) = h) (hb : b (ix1 i) = l) :
    select (cmpf .oeq a b) (broadcastInDim S18432 ![] bcast_S_S18432 (constant (F := Ideal) S_ .f32 0x3F800000#32))
      (Host.divf (subf a b) (broadcastInDim S18432 ![] bcast_S_S18432 (constant S_ .f32 0x41700000#32))) (ix1 i)
      = if h = l then 1 else Ideal.div (h - l) (Ideal.ofBits .f32 0x41700000#32) := by
  pointwise
  rw [ha, hb]
theorem scales_apply : scales x (ix1 i) = rowScale (arow x i) := by
  unfold scales rowScale
  exact scale_of i _ _ _ _ (maxs_apply x i) (mins_apply x i)
theorem level_of (r : FVec Ideal S18432x3328 .f32) (a b : FVec Ideal S18432 .f32) (g z t : EReal)
    (hr : r (ix2 i j) = g) (ha : a (ix1 i) = z) (hb : b (ix1 i) = t) :
    minimumf (broadcastInDim S18432x3328 ![] bcast_S_S18432x3328 (id (constant (F := Ideal) S_ .f32 0x41700000#32)))
    (maximumf (broadcastInDim S18432x3328 ![] bcast_S_S18432x3328 (id (constant (F := Ideal) S_ .f32 0x00000000#32)))
      (Host.roundeven (Host.divf
        (subf r (broadcastInDim S18432x3328 ![0, 1] bcast_S18432x1_S18432x3328_0_1 (broadcastInDim S18432x1 ![0] bcast_S18432_S18432x1_0 a)))
        (broadcastInDim S18432x3328 ![0, 1] bcast_S18432x1_S18432x3328_0_1 (broadcastInDim S18432x1 ![0] bcast_S18432_S18432x1_0 b))))) (ix2 i j)
      = quant g z t := by
  pointwise
  rw [hr, ha, hb]
  show min (Ideal.ofBits .f32 0x41700000#32) (max (Ideal.ofBits .f32 0#32) _) = _
  rw [ofBits_zero]
  rfl
theorem levels_apply : levels x (ix2 i j) = rowQ (arow x i) j := by
  unfold levels rowQ
  exact level_of i j _ _ _ _ _ _ (rows_apply x i j) (mins_apply x i) (scales_apply x i)
theorem codes_apply : codes x (ix2 i j) = codeBits (rowQ (arow x i) j) :=
  congrArg codeBits (levels_apply x i j)
theorem evens_apply : evens x (ix2 i k) = rowQ (arow x i) ⟨2 * k.val, by omega⟩ := by
  pointwise [evens]
  rw [codes_apply]
  exact read_codeBits _ _
theorem odds_apply : odds x (ix2 i k) = rowQ (arow x i) ⟨2 * k.val + 1, by omega⟩ := by
  pointwise [odds]
  rw [codes_apply, show (⟨1 + 2 * k.val, by omega⟩ : Fin 3328) = ⟨2 * k.val + 1, by omega⟩ from Fin.ext (Nat.add_comm _ _)]
  exact read_codeBits _ _
theorem lows_apply : (lows w (ix2 k n)).toInt = loNib (w (ix2 k n)) := by
  pointwise [lows, signed]
  exact lo_mask _
theorem highs_apply : (highs w (ix2 k n)).toInt = hiNib (w (ix2 k n)) := by
  pointwise [highs, signed]
  exact hi_mask _
theorem colsums_apply : colsums w (ix1 n) = ((wtSum (wcol w n) : ℝ) : EReal) := by
  pointwise [colsums]
  obtain ⟨e1, l1, u1⟩ := toInt_fold (fun x => lows w (ix2 x n)) (fun k => by rw [lows_apply]; exact loNib_bounds _) Finset.univ (by simp)
  obtain ⟨e2, l2, u2⟩ := toInt_fold (fun x => highs w (ix2 x n)) (fun k => by rw [highs_apply]; exact hiNib_bounds _) Finset.univ (by simp)
  simp only [Finset.card_univ, Fintype.card_fin] at l1 u1 l2 u2
  have h : (Finset.fold IntOp.addi (0#32) (fun x => lows w (ix2 x n)) Finset.univ
      + Finset.fold IntOp.addi (0#32) (fun x => highs w (ix2 x n)) Finset.univ).toInt = wtSum (wcol w n) := by
    rw [BitVec.toInt_add, e1, e2, Int.bmod_eq_of_le (by omega) (by omega)]
    unfold wtSum
    rw [sum_pairs]
    simp only [wt_even, wt_odd, lows_apply, highs_apply]
  show (((BitVec.toInt _ : ℤ) : ℝ) : EReal) = _
  exact congrArg (fun z : ℤ => ((z : ℝ) : EReal)) h
theorem product_apply : product x w (ix2 i n) = rowDot (arow x i) (wcol w n) := by
  pointwise [product]
  rw [rowDot_pairs]
  refine congrArg₂ (· + ·) (Finset.sum_congr rfl fun k _ => ?_) (Finset.sum_congr rfl fun k _ => ?_)
  · rw [evens_apply]
    exact congrArg (fun z : ℤ => rowQ (arow x i) _ * ((z : ℝ) : EReal)) (lows_apply w n k)
  · rw [odds_apply]
    exact congrArg (fun z : ℤ => rowQ (arow x i) _ * ((z : ℝ) : EReal)) (highs_apply w n k)
theorem side_apply : side x o (ix2 i n) = ∑ y, aout x i y * o (ix2 y n) := by
  pointwise [side]
theorem layer_of (a b : FVec Ideal S18432 .f32) (s t : FVec Ideal S9728 .f32) (p q : FVec Ideal S18432x9728 .f32) (za zb zt zp zq : EReal)
    (ha : a (ix1 i) = za) (hb : b (ix1 i) = zb) (ht : t (ix1 n) = zt) (hp : p (ix2 i n) = zp) (hq : q (ix2 i n) = zq) :
    truncf .bf16 (addf (addf (mulf (mulf (acrossRow a) (downColumn s)) p) (mulf (acrossRow b) (downColumn (mulf s t)))) q) bitsLt_bf16_f32 (ix2 i n)
      = za * s (ix1 n) * zp + zb * (s (ix1 n) * zt) + zq := by
  pointwise [acrossRow, downColumn]
  rw [ha, hb, ht, hp, hq]
theorem result_apply : result x w s o (ix2 i n) = layer (arow x i) (wcol w n) (s (ix1 n)) (aout x i) (fun y => o (ix2 y n)) := by
  unfold result layer
  exact layer_of i n _ _ _ _ _ _ _ _ _ _ _ (scales_apply x i) (mins_apply x i) (colsums_apply w n) (product_apply x w i n) (side_apply x o i n)

end Cert.Proof.ReferenceIdeal

end
-- ==== Proof.Values.lean ====
module

public import proofs.«01_k».proof.Proof.KernelIdeal.Results
public import proofs.«01_k».proof.Proof.ReferenceIdeal.Entries
public import proofs.«01_k».proof.Proof.Gen.ReferenceIdeal.Run

@[expose] public section

set_option maxRecDepth 16384

noncomputable section

/-! The four results as functions of the arguments, and that both programs end with them. -/

namespace Cert.Proof

open Cert.KernelIdeal Cert.Proof.Spec Cert.Proof.KernelIdeal
open Idealize.ShloMosaic
open Idealize.ShloMosaic.TcCoe
open Idealize.SL.Sem

/-- The layer's result, -/
def yVal (x : S18432x3584.Idx → EReal) (w : S1664x9728.Idx → BitVec 8) (s : S9728.Idx → EReal) (o : S256x9728.Idx → EReal) : S18432x9728.Idx → EReal :=
  fun i => layer (grow x (i 0)) (wcolOf w (i 1)) (s (ix1 (i 1))) (gout x (i 0)) (fun y => o (ix2 y (i 1)))
/-- the codes, -/
def codeVal (x : S18432x3584.Idx → EReal) : S18432x3328.Idx → BitVec 8 := fun i => codeBits (rowQ (grow x (i 0)) (i 1))
/-- the scales -/
def scaleVal (x : S18432x3584.Idx → EReal) : S12x1536.Idx → EReal := fun y => rowScale (grow x (rowAt y))
/-- and the zero points. -/
def zeroVal (x : S18432x3584.Idx → EReal) : S12x1536.Idx → EReal := fun y => rowMin (grow x (rowAt y))

theorem result_yVal (x : S18432x3584.Idx → EReal) (w : S1664x9728.Idx → BitVec 8) (s : S9728.Idx → EReal) (o : S256x9728.Idx → EReal) :
    ReferenceIdeal.result x w s o = yVal x w s o := funext fun i =>
  (congrArg (ReferenceIdeal.result x w s o) (eq_ix2 (n0 := 18432) (n1 := 9728) i)).trans (ReferenceIdeal.result_apply x w s o (i 0) (i 1))
theorem codes_codeVal (x : S18432x3584.Idx → EReal) : ReferenceIdeal.codes x = codeVal x := funext fun i =>
  (congrArg (ReferenceIdeal.codes x) (eq_ix2 (n0 := 18432) (n1 := 3328) i)).trans (ReferenceIdeal.codes_apply x (i 0) (i 1))
/-- A vector of the rows folded into twelve rows. -/
theorem fold_apply (v : Cert.ReferenceIdeal.S18432.Idx → EReal) (h : Cert.ReferenceIdeal.S18432.ShapeCasts S12x1536) (y : S12x1536.Idx) :
    shapeCast S12x1536 v h y = v (ix1 (rowAt y)) :=
  shapeCast_apply v h y _ (by rw [Shape.rowMajor_val_one, Shape.rowMajor_val_two]; rfl)
theorem scales_scaleVal (x : S18432x3584.Idx → EReal) (h : Cert.ReferenceIdeal.S18432.ShapeCasts S12x1536) :
    shapeCast S12x1536 (ReferenceIdeal.scales x) h = scaleVal x := funext fun y =>
  (fold_apply _ h y).trans (ReferenceIdeal.scales_apply x _)
theorem mins_zeroVal (x : S18432x3584.Idx → EReal) (h : Cert.ReferenceIdeal.S18432.ShapeCasts S12x1536) :
    shapeCast S12x1536 (ReferenceIdeal.mins x) h = zeroVal x := funext fun y =>
  (fold_apply _ h y).trans (ReferenceIdeal.mins_apply x _)

variable (m : (ℓ : Loc nD τ sig) → Buf (Elt Ideal) ℓ)

/-- Every run of the kernel ends with the four results and the arguments as launched. -/
theorem kernel_values (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v2_0) = yVal (argX m c) (argW m c) (argS m c) (argO m c)
      ∧ r.2.mem ((c.tc : Thread nD τ).loc main_v2_1) = codeVal (argX m c)
      ∧ r.2.mem ((c.tc : Thread nD τ).loc main_v2_2) = scaleVal (argX m c)
      ∧ r.2.mem ((c.tc : Thread nD τ).loc main_v2_3) = zeroVal (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => by
    obtain ⟨h0, h1, h2, h3⟩ := Ends.results m c (h.1 c)
    refine ⟨funext fun i => ?_, funext fun i => ?_, funext fun y => h2 y, funext fun y => h3 y,
      (h.1 c).arg m main_arg0 rfl (by decide) (by decide) (by decide) (by decide) (by decide) (by decide) (by decide),
      (h.1 c).arg m main_arg1 rfl (by decide) (by decide) (by decide) (by decide) (by decide) (by decide) (by decide),
      (h.1 c).arg m main_arg2 rfl (by decide) (by decide) (by decide) (by decide) (by decide) (by decide) (by decide),
      (h.1 c).arg m main_arg3 rfl (by decide) (by decide) (by decide) (by decide) (by decide) (by decide) (by decide)⟩
    · exact (congrArg (r.2.mem ((c.tc : Thread nD τ).loc main_v2_0)) (eq_ix2 (n0 := 18432) (n1 := 9728) i)).trans (h0 (i 0) (i 1))
    · exact (congrArg (r.2.mem ((c.tc : Thread nD τ).loc main_v2_1)) (eq_ix2 (n0 := 18432) (n1 := 3328) i)).trans (h1 (i 0) (i 1)))
    (run_ends m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Values
public import Idealize.ShloMosaic.Adequacy
public import Idealize.ShloMosaic.Init

@[expose] public section

noncomputable section

namespace Cert.Proof

open Idealize.ShloMosaic Idealize.SL.Sem Cert.Kernel

/-- The kernel runs, leaves its arguments as they were and every semaphore counter at zero. -/
theorem frame_kernel : Cert.quiescent_Kernel := fun m ρ _ => Cert.Proof.Kernel.frame m ρ

theorem frame_kernelIdeal : Cert.quiescent_KernelIdeal := fun m ρ _ => Cert.Proof.KernelIdeal.frame m ρ

/-- The reference has no semaphores. -/
theorem frame_referenceIdeal : Cert.quiescent_ReferenceIdeal := fun m ρ _ =>
  (θ_run _ _ _).mono (fun r h => ⟨fun c => (h c).2.2.2.2, sem_eq_zero_of_no_sems (by decide) r.2⟩)
    (Cert.ReferenceIdeal.Value.run m ρ)

/-- Over the ideal values both programs end with the same four results. -/
theorem algebraic : Cert.algebraic_KernelIdeal_ReferenceIdeal := fun m g m' g' _ hargs => by
  refine ⟨fun c => yVal (KernelIdeal.argX m c) (KernelIdeal.argW m c) (KernelIdeal.argS m c) (KernelIdeal.argO m c),
    fun c => codeVal (KernelIdeal.argX m c), fun c => scaleVal (KernelIdeal.argX m c), fun c => zeroVal (KernelIdeal.argX m c),
    kernel_values m g, (θ_run _ _ _).mono (fun r h c => ?_) (Cert.ReferenceIdeal.Value.run m' g')⟩
  obtain ⟨e0, e1, e2, e3⟩ := hargs c
  obtain ⟨h0, h1, h2, h3, ha⟩ := h c
  refine ⟨?_, ?_, ?_, ?_, ha⟩
  · refine h0.trans ((ReferenceIdeal.res_eq m' c).trans ?_)
    rw [e0, e1, e2, e3]
    exact result_yVal _ _ _ _
  · refine h1.trans ?_
    rw [e0]
    exact codes_codeVal (KernelIdeal.argX m c)
  · refine h2.trans ?_
    rw [e0]
    exact scales_scaleVal (KernelIdeal.argX m c) _
  · refine h3.trans ?_
    rw [e0]
    exact mins_zeroVal (KernelIdeal.argX m c) _

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
